-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S128x32x64x2 : Shape := ⟨4, ![128, 32, 64, 2]⟩
abbrev S33x1 : Shape := ⟨2, ![33, 1]⟩
abbrev S_ : Shape := ⟨0, ![]⟩
abbrev S33 : Shape := ⟨1, ![33]⟩

class Facts : Prop where
  shapeCasts_S33_S33x1 : S33.ShapeCasts S33x1
  bcast_S_S33x1 : S_.BroadcastsInDim S33x1 (![] : Fin 0 → Fin S33x1.rank)
  reducesTo_S33x1_S_d0_1 : S33x1.ReducesTo [0, 1] S_
  h_S_ : 0 < S_.numel
  bcast_S_S128x32x64x2 : S_.BroadcastsInDim S128x32x64x2 (![] : Fin 0 → Fin S128x32x64x2.rank)
  reducesTo_S128x32x64x2_S_d0_1_2_3 : S128x32x64x2.ReducesTo [0, 1, 2, 3] S_

variable [Facts]

def fn {F : FTy → Type} [FloatOps F] (main_arg0 : FVec F S128x32x64x2 .f32) (main_arg1 : FVec F S33x1 .f32) (main_arg2 : FVec F S_ .f32) : IVec S_ 1 :=
  let main_v0 : IVec S33 32 := iotaInDim S33 32 0
  let main_v1 : IVec S33x1 32 := shapeCast S33x1 main_v0 shapeCasts_S33_S33x1
  let main_c : IVec S_ 32 := constantI S_ 32 16#32
  let main_v2 : IVec S33x1 32 := broadcastInDim S33x1 ![] bcast_S_S33x1 main_c
  let main_v3 : IVec S33x1 32 := subi main_v1 main_v2
  let main_v4 : FVec F S33x1 .f32 := sitofp .f32 main_v3
  let main_v5 : IVec S33x1 1 := cmpf .oeq main_arg1 main_v4
  let main_c_0 : IVec S_ 1 := constantI S_ 1 1#1
  let main_v6 : IVec S_ 1 := (fun x v => Host.reduce IntOp.andi x v reducesTo_S33x1_S_d0_1 h_S_) main_v5 main_c_0
  let main_v7 : FVec F S128x32x64x2 .f32 := Host.absf main_arg0
  let main_cst : FVec F S_ .f32 := constant S_ .f32 0x7F800000#32
  let main_v8 : FVec F S128x32x64x2 .f32 := broadcastInDim S128x32x64x2 ![] bcast_S_S128x32x64x2 main_cst
  let main_v9 : IVec S128x32x64x2 1 := cmpf .olt main_v7 main_v8
  let main_c_1 : IVec S_ 1 := constantI S_ 1 1#1
  let main_v10 : IVec S_ 1 := (fun x v => Host.reduce IntOp.andi x v reducesTo_S128x32x64x2_S_d0_1_2_3 h_S_) main_v9 main_c_1
  let main_v11 : IVec S_ 1 := andi main_v6 main_v10
  let main_v12 : FVec F S_ .f32 := Host.absf main_arg2
  let main_cst_2 : FVec F S_ .f32 := constant S_ .f32 0x7F800000#32
  let main_v13 : IVec S_ 1 := cmpf .olt main_v12 main_cst_2
  let main_v14 : IVec S_ 1 := andi main_v11 main_v13
  main_v14
-- ==== Kernel.lean ====
abbrev S128x32x64x2 : Shape := ⟨4, ![128, 32, 64, 2]⟩
abbrev S33x1 : Shape := ⟨2, ![33, 1]⟩
abbrev S_ : Shape := ⟨0, ![]⟩
abbrev S128x128 : Shape := ⟨2, ![128, 128]⟩
abbrev S2x128x32x64 : Shape := ⟨4, ![2, 128, 32, 64]⟩
abbrev S2x128x2048 : Shape := ⟨3, ![2, 128, 2048]⟩
abbrev S128x256 : Shape := ⟨2, ![128, 256]⟩
abbrev S2048x128 : Shape := ⟨2, ![2048, 128]⟩
abbrev S2176x128 : Shape := ⟨2, ![2176, 128]⟩
abbrev S33x128x2048 : Shape := ⟨3, ![33, 128, 2048]⟩
abbrev S2x128x128 : Shape := ⟨3, ![2, 128, 128]⟩
abbrev S33x128x128 : Shape := ⟨3, ![33, 128, 128]⟩
abbrev S1x128x128 : Shape := ⟨3, ![1, 128, 128]⟩
abbrev S128 : Shape := ⟨1, ![128]⟩
abbrev S1x128 : Shape := ⟨2, ![1, 128]⟩
abbrev S128x2048x33 : Shape := ⟨3, ![128, 2048, 33]⟩
abbrev S128x32x64x33 : Shape := ⟨4, ![128, 32, 64, 33]⟩

abbrev nBuf : Space → Nat
  | .hbm => 32
  | .vmem => 5
  | .smem => 0
  | _ => 0

abbrev bufTy : (tb : Table) → Fin (tcTables nBuf tb) → BufTy
  | .hbm, ⟨0, _⟩ => ⟨S128x32x64x2, .f32⟩
  | .hbm, ⟨1, _⟩ => ⟨S33x1, .f32⟩
  | .hbm, ⟨2, _⟩ => ⟨S_, .f32⟩
  | .hbm, ⟨3, _⟩ => ⟨S128x128, .f32⟩
  | .hbm, ⟨4, _⟩ => ⟨S2x128x32x64, .f32⟩
  | .hbm, ⟨5, _⟩ => ⟨S2x128x2048, .f32⟩
  | .hbm, ⟨6, _⟩ => ⟨S128x256, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S2048x128, .f32⟩
  | .hbm, ⟨25, _⟩ => ⟨S2176x128, .f32⟩
  | .hbm, ⟨26, _⟩ => ⟨S2176x128, .f32⟩
  | .hbm, ⟨27, _⟩ => ⟨S2176x128, .f32⟩
  | .hbm, ⟨28, _⟩ => ⟨S2176x128, .bf16⟩
  | .hbm, ⟨29, _⟩ => ⟨S33x128x2048, .f32⟩
  | .hbm, ⟨30, _⟩ => ⟨S128x2048x33, .f32⟩
  | .hbm, ⟨31, _⟩ => ⟨S128x32x64x33, .f32⟩
  | .local _ .vmem, ⟨0, _⟩ => ⟨S2x128x128, .f32⟩
  | .local _ .vmem, ⟨1, _⟩ => ⟨S2x128x128, .f32⟩
  | .local _ .vmem, ⟨2, _⟩ => ⟨S2176x128, .bf16⟩
  | .local _ .vmem, ⟨3, _⟩ => ⟨S33x128x128, .f32⟩
  | .local _ .vmem, ⟨4, _⟩ => ⟨S33x128x128, .f32⟩
  | _, _ => ⟨S128x32x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S33x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32x64x2 : Shape := ⟨4, ![128, 32, 64, 2]⟩
abbrev S33x1 : Shape := ⟨2, ![33, 1]⟩
abbrev S_ : Shape := ⟨0, ![]⟩
abbrev S128x32x64x1x2 : Shape := ⟨5, ![128, 32, 64, 1, 2]⟩
abbrev S128x32x64x1x33x2 : Shape := ⟨6, ![128, 32, 64, 1, 33, 2]⟩
abbrev S128x32x64x33x2 : Shape := ⟨5, ![128, 32, 64, 33, 2]⟩
abbrev S33x2 : Shape := ⟨2, ![33, 2]⟩
abbrev S1x1x33x2 : Shape := ⟨4, ![1, 1, 33, 2]⟩
abbrev S32x64x33x2 : Shape := ⟨4, ![32, 64, 33, 2]⟩
abbrev S1 : Shape := ⟨1, ![1]⟩
abbrev S2 : Shape := ⟨1, ![2]⟩
abbrev S1x1x1x1 : Shape := ⟨4, ![1, 1, 1, 1]⟩
abbrev S128 : Shape := ⟨1, ![128]⟩
abbrev S128x1x1x1x1 : Shape := ⟨5, ![128, 1, 1, 1, 1]⟩
abbrev S1x32x64x33x2 : Shape := ⟨5, ![1, 32, 64, 33, 2]⟩
abbrev S128x32x64x33x2x1 : Shape := ⟨6, ![128, 32, 64, 33, 2, 1]⟩
abbrev S1x1x1x1x1x1 : Shape := ⟨6, ![1, 1, 1, 1, 1, 1]⟩
abbrev S128x32x64x33 : Shape := ⟨4, ![128, 32, 64, 33]⟩

abbrev nBuf : Space → Nat
  | .hbm => 401
  | .vmem => 0
  | .smem => 0
  | _ => 0

abbrev hbmTy0_0 (i : Nat) : BufTy := match i % 128 with
  | 0 => ⟨S128x32x64x2, .f32⟩
  | 1 => ⟨S33x1, .f32⟩
  | 2 => ⟨S_, .f32⟩
  | 3 => ⟨S128x32x64x1x2, .f32⟩
  | 4 => ⟨S128x32x64x1x33x2, .f32⟩
  | 5 => ⟨S128x32x64x33x2, .f32⟩
  | 6 => ⟨S33x1, .f32⟩
  | 7 => ⟨S33x2, .f32⟩
  | 8 => ⟨S_, .f32⟩
  | 9 => ⟨S33x2, .f32⟩
  | 10 => ⟨S33x2, .f32⟩
  | 11 => ⟨S1x1x33x2, .f32⟩
  | 12 => ⟨S32x64x33x2, .f32⟩
  | 13 => ⟨S32x64x33x2, .f32⟩
  | 14 => ⟨S32x64x33x2, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S_, .f32⟩
  | 26 => ⟨S_, .f32⟩
  | 27 => ⟨S_, .f32⟩
  | 28 => ⟨S_, .f32⟩
  | 29 => ⟨S1x1x1x1, .f32⟩
  | 30 => ⟨S1x1x1x1, .f32⟩
  | 31 => ⟨S1, .i32⟩
  | 32 => ⟨S_, .i32⟩
  | 33 => ⟨S1, .i32⟩
  | 34 => ⟨S_, .i32⟩
  | 35 => ⟨S32x64x33x2, .i64⟩
  | 36 => ⟨S32x64x33x2, .i64⟩
  | 37 => ⟨S32x64x33x2, .i64⟩
  | 38 => ⟨S32x64x33x2, .i64⟩
  | 39 => ⟨S_, .i64⟩
  | 40 => ⟨S32x64x33x2, .i64⟩
  | 41 => ⟨S32x64x33x2, .i64⟩
  | 42 => ⟨S_, .i64⟩
  | 43 => ⟨S32x64x33x2, .i64⟩
  | 44 => ⟨S32x64x33x2, .i64⟩
  | 45 => ⟨S_, .i64⟩
  | 46 => ⟨S32x64x33x2, .i64⟩
  | 47 => ⟨S32x64x33x2, .i64⟩
  | 48 => ⟨S_, .i64⟩
  | 49 => ⟨S32x64x33x2, .i64⟩
  | 50 => ⟨S32x64x33x2, .i64⟩
  | 51 => ⟨S32x64x33x2, .i64⟩
  | 52 => ⟨S32x64x33x2, .i64⟩
  | 53 => ⟨S32x64x33x2, .i64⟩
  | 54 => ⟨S_, .i64⟩
  | 55 => ⟨S32x64x33x2, .i64⟩
  | 56 => ⟨S32x64x33x2, .i64⟩
  | 57 => ⟨S32x64x33x2, .i32⟩
  | 58 => ⟨S32x64x33x2, .i32⟩
  | 59 => ⟨S_, .i32⟩
  | 60 => ⟨S_, .i32⟩
  | 61 => ⟨S_, .i32⟩
  | 62 => ⟨S32x64x33x2, .i32⟩
  | 63 => ⟨S32x64x33x2, .i32⟩
  | 64 => ⟨S32x64x33x2, .i32⟩
  | 65 => ⟨S32x64x33x2, .i32⟩
  | 66 => ⟨S32x64x33x2, .i32⟩
  | 67 => ⟨S_, .i32⟩
  | 68 => ⟨S32x64x33x2, .i32⟩
  | 69 => ⟨S32x64x33x2, .i32⟩
  | 70 => ⟨S_, .i32⟩
  | 71 => ⟨S32x64x33x2, .i32⟩
  | 72 => ⟨S32x64x33x2, .i32⟩
  | 73 => ⟨S32x64x33x2, .i32⟩
  | 74 => ⟨S32x64x33x2, .i32⟩
  | 75 => ⟨S32x64x33x2, .i32⟩
  | 76 => ⟨S_, .i32⟩
  | 77 => ⟨S32x64x33x2, .i32⟩
  | 78 => ⟨S32x64x33x2, .i32⟩
  | 79 => ⟨S_, .i32⟩
  | 80 => ⟨S32x64x33x2, .i32⟩
  | 81 => ⟨S32x64x33x2, .i32⟩
  | 82 => ⟨S32x64x33x2, .i32⟩
  | 83 => ⟨S32x64x33x2, .i32⟩
  | 84 => ⟨S32x64x33x2, .i32⟩
  | 85 => ⟨S_, .i32⟩
  | 86 => ⟨S32x64x33x2, .i32⟩
  | 87 => ⟨S32x64x33x2, .i32⟩
  | 88 => ⟨S_, .i32⟩
  | 89 => ⟨S32x64x33x2, .i32⟩
  | 90 => ⟨S32x64x33x2, .i32⟩
  | 91 => ⟨S32x64x33x2, .i32⟩
  | 92 => ⟨S32x64x33x2, .i32⟩
  | 93 => ⟨S32x64x33x2, .i32⟩
  | 94 => ⟨S_, .i32⟩
  | 95 => ⟨S32x64x33x2, .i32⟩
  | 96 => ⟨S32x64x33x2, .i32⟩
  | 97 => ⟨S_, .i32⟩
  | 98 => ⟨S32x64x33x2, .i32⟩
  | 99 => ⟨S32x64x33x2, .i32⟩
  | 100 => ⟨S32x64x33x2, .i32⟩
  | 101 => ⟨S32x64x33x2, .i32⟩
  | 102 => ⟨S32x64x33x2, .i32⟩
  | 103 => ⟨S32x64x33x2, .i32⟩
  | 104 => ⟨S32x64x33x2, .i32⟩
  | 105 => ⟨S32x64x33x2, .i32⟩
  | 106 => ⟨S_, .i32⟩
  | 107 => ⟨S32x64x33x2, .i32⟩
  | 108 => ⟨S32x64x33x2, .i32⟩
  | 109 => ⟨S32x64x33x2, .i32⟩
  | 110 => ⟨S_, .i32⟩
  | 111 => ⟨S32x64x33x2, .i32⟩
  | 112 => ⟨S32x64x33x2, .i32⟩
  | 113 => ⟨S_, .i32⟩
  | 114 => ⟨S32x64x33x2, .i32⟩
  | 115 => ⟨S32x64x33x2, .i32⟩
  | 116 => ⟨S32x64x33x2, .i32⟩
  | 117 => ⟨S32x64x33x2, .i32⟩
  | 118 => ⟨S32x64x33x2, .i32⟩
  | 119 => ⟨S_, .i32⟩
  | 120 => ⟨S32x64x33x2, .i32⟩
  | 121 => ⟨S32x64x33x2, .i32⟩
  | 122 => ⟨S_, .i32⟩
  | 123 => ⟨S32x64x33x2, .i32⟩
  | 124 => ⟨S32x64x33x2, .i32⟩
  | 125 => ⟨S32x64x33x2, .i32⟩
  | 126 => ⟨S32x64x33x2, .i32⟩
  | 127 => ⟨S32x64x33x2, .i32⟩
  | _ => ⟨S128x32x64x2, .f32⟩

abbrev hbmTy0_1 (i : Nat) : BufTy := match i % 128 with
  | 0 => ⟨S_, .i32⟩
  | 1 => ⟨S32x64x33x2, .i32⟩
  | 2 => ⟨S32x64x33x2, .i32⟩
  | 3 => ⟨S_, .i32⟩
  | 4 => ⟨S32x64x33x2, .i32⟩
  | 5 => ⟨S32x64x33x2, .i32⟩
  | 6 => ⟨S32x64x33x2, .i32⟩
  | 7 => ⟨S32x64x33x2, .i32⟩
  | 8 => ⟨S32x64x33x2, .i32⟩
  | 9 => ⟨S_, .i32⟩
  | 10 => ⟨S32x64x33x2, .i32⟩
  | 11 => ⟨S32x64x33x2, .i32⟩
  | 12 => ⟨S_, .i32⟩
  | 13 => ⟨S32x64x33x2, .i32⟩
  | 14 => ⟨S32x64x33x2, .i32⟩
  | 15 => ⟨S32x64x33x2, .i32⟩
  | 16 => ⟨S32x64x33x2, .i32⟩
  | 17 => ⟨S32x64x33x2, .i32⟩
  | 18 => ⟨S32x64x33x2, .i32⟩
  | 19 => ⟨S32x64x33x2, .i32⟩
  | 20 => ⟨S32x64x33x2, .i32⟩
  | 21 => ⟨S_, .i32⟩
  | 22 => ⟨S32x64x33x2, .i32⟩
  | 23 => ⟨S32x64x33x2, .i32⟩
  | 24 => ⟨S32x64x33x2, .i32⟩
  | 25 => ⟨S_, .i32⟩
  | 26 => ⟨S32x64x33x2, .i32⟩
  | 27 => ⟨S32x64x33x2, .i32⟩
  | 28 => ⟨S_, .i32⟩
  | 29 => ⟨S32x64x33x2, .i32⟩
  | 30 => ⟨S32x64x33x2, .i32⟩
  | 31 => ⟨S32x64x33x2, .i32⟩
  | 32 => ⟨S32x64x33x2, .i32⟩
  | 33 => ⟨S32x64x33x2, .i32⟩
  | 34 => ⟨S_, .i32⟩
  | 35 => ⟨S32x64x33x2, .i32⟩
  | 36 => ⟨S32x64x33x2, .i32⟩
  | 37 => ⟨S_, .i32⟩
  | 38 => ⟨S32x64x33x2, .i32⟩
  | 39 => ⟨S32x64x33x2, .i32⟩
  | 40 => ⟨S32x64x33x2, .i32⟩
  | 41 => ⟨S32x64x33x2, .i32⟩
  | 42 => ⟨S32x64x33x2, .i32⟩
  | 43 => ⟨S_, .i32⟩
  | 44 => ⟨S32x64x33x2, .i32⟩
  | 45 => ⟨S32x64x33x2, .i32⟩
  | 46 => ⟨S_, .i32⟩
  | 47 => ⟨S32x64x33x2, .i32⟩
  | 48 => ⟨S32x64x33x2, .i32⟩
  | 49 => ⟨S32x64x33x2, .i32⟩
  | 50 => ⟨S32x64x33x2, .i32⟩
  | 51 => ⟨S32x64x33x2, .i32⟩
  | 52 => ⟨S_, .i32⟩
  | 53 => ⟨S32x64x33x2, .i32⟩
  | 54 => ⟨S32x64x33x2, .i32⟩
  | 55 => ⟨S_, .i32⟩
  | 56 => ⟨S32x64x33x2, .i32⟩
  | 57 => ⟨S32x64x33x2, .i32⟩
  | 58 => ⟨S32x64x33x2, .i32⟩
  | 59 => ⟨S32x64x33x2, .i32⟩
  | 60 => ⟨S32x64x33x2, .i32⟩
  | 61 => ⟨S32x64x33x2, .i32⟩
  | 62 => ⟨S32x64x33x2, .i32⟩
  | 63 => ⟨S32x64x33x2, .i32⟩
  | 64 => ⟨S_, .i32⟩
  | 65 => ⟨S32x64x33x2, .i32⟩
  | 66 => ⟨S32x64x33x2, .i32⟩
  | 67 => ⟨S32x64x33x2, .i32⟩
  | 68 => ⟨S_, .i32⟩
  | 69 => ⟨S32x64x33x2, .i32⟩
  | 70 => ⟨S32x64x33x2, .i32⟩
  | 71 => ⟨S_, .i32⟩
  | 72 => ⟨S32x64x33x2, .i32⟩
  | 73 => ⟨S32x64x33x2, .i32⟩
  | 74 => ⟨S32x64x33x2, .i32⟩
  | 75 => ⟨S32x64x33x2, .i32⟩
  | 76 => ⟨S32x64x33x2, .i32⟩
  | 77 => ⟨S_, .i32⟩
  | 78 => ⟨S32x64x33x2, .i32⟩
  | 79 => ⟨S32x64x33x2, .i32⟩
  | 80 => ⟨S_, .i32⟩
  | 81 => ⟨S32x64x33x2, .i32⟩
  | 82 => ⟨S32x64x33x2, .i32⟩
  | 83 => ⟨S32x64x33x2, .i32⟩
  | 84 => ⟨S32x64x33x2, .i32⟩
  | 85 => ⟨S32x64x33x2, .i32⟩
  | 86 => ⟨S_, .i32⟩
  | 87 => ⟨S32x64x33x2, .i32⟩
  | 88 => ⟨S32x64x33x2, .i32⟩
  | 89 => ⟨S_, .i32⟩
  | 90 => ⟨S32x64x33x2, .i32⟩
  | 91 => ⟨S32x64x33x2, .i32⟩
  | 92 => ⟨S32x64x33x2, .i32⟩
  | 93 => ⟨S32x64x33x2, .i32⟩
  | 94 => ⟨S32x64x33x2, .i32⟩
  | 95 => ⟨S_, .i32⟩
  | 96 => ⟨S32x64x33x2, .i32⟩
  | 97 => ⟨S32x64x33x2, .i32⟩
  | 98 => ⟨S_, .i32⟩
  | 99 => ⟨S32x64x33x2, .i32⟩
  | 100 => ⟨S32x64x33x2, .i32⟩
  | 101 => ⟨S32x64x33x2, .i32⟩
  | 102 => ⟨S32x64x33x2, .i32⟩
  | 103 => ⟨S32x64x33x2, .i32⟩
  | 104 => ⟨S32x64x33x2, .i32⟩
  | 105 => ⟨S32x64x33x2, .i32⟩
  | 106 => ⟨S32x64x33x2, .i32⟩
  | 107 => ⟨S_, .i32⟩
  | 108 => ⟨S32x64x33x2, .i32⟩
  | 109 => ⟨S32x64x33x2, .i32⟩
  | 110 => ⟨S32x64x33x2, .i32⟩
  | 111 => ⟨S_, .i32⟩
  | 112 => ⟨S32x64x33x2, .i32⟩
  | 113 => ⟨S32x64x33x2, .i32⟩
  | 114 => ⟨S_, .i32⟩
  | 115 => ⟨S32x64x33x2, .i32⟩
  | 116 => ⟨S32x64x33x2, .i32⟩
  | 117 => ⟨S32x64x33x2, .i32⟩
  | 118 => ⟨S32x64x33x2, .i32⟩
  | 119 => ⟨S32x64x33x2, .i32⟩
  | 120 => ⟨S_, .i32⟩
  | 121 => ⟨S32x64x33x2, .i32⟩
  | 122 => ⟨S32x64x33x2, .i32⟩
  | 123 => ⟨S_, .i32⟩
  | 124 => ⟨S32x64x33x2, .i32⟩
  | 125 => ⟨S32x64x33x2, .i32⟩
  | 126 => ⟨S32x64x33x2, .i32⟩
  | 127 => ⟨S32x64x33x2, .i32⟩
  | _ => ⟨S128x32x64x2, .f32⟩

abbrev hbmTy0_2 (i : Nat) : BufTy := match i % 128 with
  | 0 => ⟨S32x64x33x2, .i32⟩
  | 1 => ⟨S_, .i32⟩
  | 2 => ⟨S32x64x33x2, .i32⟩
  | 3 => ⟨S32x64x33x2, .i32⟩
  | 4 => ⟨S_, .i32⟩
  | 5 => ⟨S32x64x33x2, .i32⟩
  | 6 => ⟨S32x64x33x2, .i32⟩
  | 7 => ⟨S32x64x33x2, .i32⟩
  | 8 => ⟨S32x64x33x2, .i32⟩
  | 9 => ⟨S32x64x33x2, .i32⟩
  | 10 => ⟨S_, .i32⟩
  | 11 => ⟨S32x64x33x2, .i32⟩
  | 12 => ⟨S32x64x33x2, .i32⟩
  | 13 => ⟨S_, .i32⟩
  | 14 => ⟨S32x64x33x2, .i32⟩
  | 15 => ⟨S32x64x33x2, .i32⟩
  | 16 => ⟨S32x64x33x2, .i32⟩
  | 17 => ⟨S32x64x33x2, .i32⟩
  | 18 => ⟨S32x64x33x2, .i32⟩
  | 19 => ⟨S32x64x33x2, .i32⟩
  | 20 => ⟨S32x64x33x2, .i32⟩
  | 21 => ⟨S32x64x33x2, .i32⟩
  | 22 => ⟨S_, .i32⟩
  | 23 => ⟨S32x64x33x2, .i32⟩
  | 24 => ⟨S32x64x33x2, .i32⟩
  | 25 => ⟨S32x64x33x2, .i32⟩
  | 26 => ⟨S_, .i32⟩
  | 27 => ⟨S32x64x33x2, .i32⟩
  | 28 => ⟨S32x64x33x2, .i32⟩
  | 29 => ⟨S_, .i32⟩
  | 30 => ⟨S32x64x33x2, .i32⟩
  | 31 => ⟨S32x64x33x2, .i32⟩
  | 32 => ⟨S32x64x33x2, .f32⟩
  | 33 => ⟨S_, .f32⟩
  | 34 => ⟨S32x64x33x2, .f32⟩
  | 35 => ⟨S32x64x33x2, .f32⟩
  | 36 => ⟨S1x1x1x1, .f32⟩
  | 37 => ⟨S32x64x33x2, .f32⟩
  | 38 => ⟨S32x64x33x2, .f32⟩
  | 39 => ⟨S32x64x33x2, .f32⟩
  | 40 => ⟨S32x64x33x2, .f32⟩
  | 41 => ⟨S32x64x33x2, .f32⟩
  | 42 => ⟨S32x64x33x2, .f32⟩
  | 43 => ⟨S32x64x33x2, .i1⟩
  | 44 => ⟨S_, .f32⟩
  | 45 => ⟨S32x64x33x2, .f32⟩
  | 46 => ⟨S32x64x33x2, .f32⟩
  | 47 => ⟨S32x64x33x2, .f32⟩
  | 48 => ⟨S128x32x64x33x2, .i32⟩
  | 49 => ⟨S_, .f32⟩
  | 50 => ⟨S_, .i32⟩
  | 51 => ⟨S32x64x33x2, .f32⟩
  | 52 => ⟨S32x64x33x2, .i32⟩
  | 53 => ⟨S_, .i32⟩
  | 54 => ⟨S32x64x33x2, .i32⟩
  | 55 => ⟨S32x64x33x2, .i32⟩
  | 56 => ⟨S32x64x33x2, .f32⟩
  | 57 => ⟨S32x64x33x2, .f32⟩
  | 58 => ⟨S32x64x33x2, .i32⟩
  | 59 => ⟨S128, .i32⟩
  | 60 => ⟨S128x1x1x1x1, .i32⟩
  | 61 => ⟨S1x32x64x33x2, .i32⟩
  | 62 => ⟨S128x32x64x33x2, .i32⟩
  | 63 => ⟨S128x32x64x33x2, .i32⟩
  | 64 => ⟨S128x32x64x33x2, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128x32x64x33x2, .i32⟩
  | 72 => ⟨S128x32x64x33x2, .i32⟩
  | 73 => ⟨S_, .i32⟩
  | 74 => ⟨S128x32x64x33x2, .i32⟩
  | 75 => ⟨S128x32x64x33x2, .i1⟩
  | 76 => ⟨S_, .i32⟩
  | 77 => ⟨S128x32x64x33x2, .i32⟩
  | 78 => ⟨S128x32x64x33x2, .i1⟩
  | 79 => ⟨S_, .i32⟩
  | 80 => ⟨S_, .i1⟩
  | 81 => ⟨S128x32x64x33x2, .i1⟩
  | 82 => ⟨S128x32x64x33x2, .i1⟩
  | 83 => ⟨S128x32x64x33x2, .i1⟩
  | 84 => ⟨S128x32x64x33x2, .i32⟩
  | 85 => ⟨S128x32x64x33x2, .i32⟩
  | 86 => ⟨S128x32x64x33x2, .i32⟩
  | 87 => ⟨S_, .i32⟩
  | 88 => ⟨S128x32x64x33x2, .i32⟩
  | 89 => ⟨S128x32x64x33x2, .i1⟩
  | 90 => ⟨S_, .i32⟩
  | 91 => ⟨S128x32x64x33x2, .i32⟩
  | 92 => ⟨S128x32x64x33x2, .i32⟩
  | 93 => ⟨S128x32x64x33x2, .i32⟩
  | 94 => ⟨S128x32x64x33x2x1, .i32⟩
  | 95 => ⟨S1, .i32⟩
  | 96 => ⟨S_, .i32⟩
  | 97 => ⟨S128x32x64x33x2x1, .i32⟩
  | 98 => ⟨S128x32x64x33x2x1, .i1⟩
  | 99 => ⟨S1x1x1x1x1x1, .i32⟩
  | 100 => ⟨S128x32x64x33x2x1, .i32⟩
  | 101 => ⟨S128x32x64x33x2x1, .i1⟩
  | 102 => ⟨S128x32x64x33x2x1, .i1⟩
  | 103 => ⟨S_, .i1⟩
  | 104 => ⟨S128x32x64x33x2, .i1⟩
  | 105 => ⟨S128x32x64x33x2, .f32⟩
  | 106 => ⟨S_, .f32⟩
  | 107 => ⟨S128x32x64x33x2, .f32⟩
  | 108 => ⟨S128x32x64x33x2, .f32⟩
  | 109 => ⟨S1x32x64x33x2, .f32⟩
  | 110 => ⟨S32x64x33x2, .f32⟩
  | 111 => ⟨S_, .f32⟩
  | 112 => ⟨S32x64x33x2, .f32⟩
  | 113 => ⟨S_, .f32⟩
  | 114 => ⟨S128x32x64x33x2, .f32⟩
  | 115 => ⟨S_, .i32⟩
  | 116 => ⟨S128x32x64x33x2, .f32⟩
  | 117 => ⟨S_, .i32⟩
  | 118 => ⟨S32x64x33x2, .f32⟩
  | 119 => ⟨S128x32x64x33x2, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x32x64x33x2, .f32⟩
  | 127 => ⟨S32x64x33x2, .f32⟩
  | _ => ⟨S128x32x64x2, .f32⟩

abbrev hbmTy0_3 (i : Nat) : BufTy := match i % 128 with
  | 0 => ⟨S32x64x33x2, .f32⟩
  | 1 => ⟨S_, .f32⟩
  | 2 => ⟨S32x64x33x2, .f32⟩
  | 3 => ⟨S32x64x33x2, .f32⟩
  | 4 => ⟨S32x64x33x2, .f32⟩
  | 5 => ⟨S1x32x64x33x2, .f32⟩
  | 6 => ⟨S_, .i32⟩
  | 7 => ⟨S_, .i32⟩
  | 8 => ⟨S_, .i32⟩
  | 9 => ⟨S_, .i32⟩
  | 10 => ⟨S128x32x64x33x2, .f32⟩
  | 11 => ⟨S_, .i32⟩
  | 12 => ⟨S_, .i32⟩
  | 13 => ⟨S128x32x64x33x2, .f32⟩
  | 14 => ⟨S128x32x64x33x2, .f32⟩
  | 15 => ⟨S_, .f32⟩
  | 16 => ⟨S128x32x64x33, .f32⟩
  | _ => ⟨S128x32x64x2, .f32⟩

abbrev hbmTy (i : Nat) : BufTy := match i / 128 with
  | 0 => hbmTy0_0 i
  | 1 => hbmTy0_1 i
  | 2 => hbmTy0_2 i
  | 3 => hbmTy0_3 i
  | _ => ⟨S128x32x64x2, .f32⟩

abbrev bufTy : (tb : Table) → Fin (tcTables nBuf tb) → BufTy
  | .hbm, ⟨i, _⟩ => hbmTy i
  | _, _ => ⟨S128x32x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_cst_0 : Ref sig .tc := ⟨.hbm, 26, rfl⟩
abbrev main_call1_call0_v0 : Ref sig .tc := ⟨.hbm, 27, rfl⟩
abbrev main_call1_call0_v1 : Ref sig .tc := ⟨.hbm, 28, rfl⟩
abbrev main_call1_call0_v2 : Ref sig .tc := ⟨.hbm, 29, rfl⟩
abbrev main_call1_call0_v3 : Ref sig .tc := ⟨.hbm, 30, rfl⟩
abbrev main_call1_call0_v4 : Ref sig .tc := ⟨.hbm, 31, rfl⟩
abbrev main_call1_call0_v5 : Ref sig .tc := ⟨.hbm, 32, rfl⟩
abbrev main_call1_call0_v6 : Ref sig .tc := ⟨.hbm, 33, rfl⟩
abbrev main_call1_call0_v7 : Ref sig .tc := ⟨.hbm, 34, rfl⟩
abbrev main_call1_call0_v8 : Ref sig .tc := ⟨.hbm, 35, rfl⟩
abbrev main_call1_call0_v9 : Ref sig .tc := ⟨.hbm, 36, rfl⟩
abbrev main_call1_call0_v10 : Ref sig .tc := ⟨.hbm, 37, rfl⟩
abbrev main_call1_call0_v11 : Ref sig .tc := ⟨.hbm, 38, rfl⟩
abbrev main_call1_call0_c : Ref sig .tc := ⟨.hbm, 39, rfl⟩
abbrev main_call1_call0_v12 : Ref sig .tc := ⟨.hbm, 40, rfl⟩
abbrev main_call1_call0_v13 : Ref sig .tc := ⟨.hbm, 41, rfl⟩
abbrev main_call1_call0_c_0 : Ref sig .tc := ⟨.hbm, 42, rfl⟩
abbrev main_call1_call0_v14 : Ref sig .tc := ⟨.hbm, 43, rfl⟩
abbrev main_call1_call0_v15 : Ref sig .tc := ⟨.hbm, 44, rfl⟩
abbrev main_call1_call0_c_1 : Ref sig .tc := ⟨.hbm, 45, rfl⟩
abbrev main_call1_call0_v16 : Ref sig .tc := ⟨.hbm, 46, rfl⟩
abbrev main_call1_call0_v17 : Ref sig .tc := ⟨.hbm, 47, rfl⟩
abbrev main_call1_call0_c_2 : Ref sig .tc := ⟨.hbm, 48, rfl⟩
abbrev main_call1_call0_v18 : Ref sig .tc := ⟨.hbm, 49, rfl⟩
abbrev main_call1_call0_v19 : Ref sig .tc := ⟨.hbm, 50, rfl⟩
abbrev main_call1_call0_v20 : Ref sig .tc := ⟨.hbm, 51, rfl⟩
abbrev main_call1_call0_v21 : Ref sig .tc := ⟨.hbm, 52, rfl⟩
abbrev main_call1_call0_v22 : Ref sig .tc := ⟨.hbm, 53, rfl⟩
abbrev main_call1_call0_c_3 : Ref sig .tc := ⟨.hbm, 54, rfl⟩
abbrev main_call1_call0_v23 : Ref sig .tc := ⟨.hbm, 55, rfl⟩
abbrev main_call1_call0_v24 : Ref sig .tc := ⟨.hbm, 56, rfl⟩
abbrev main_call1_call0_v25 : Ref sig .tc := ⟨.hbm, 57, rfl⟩
abbrev main_call1_call0_v26 : Ref sig .tc := ⟨.hbm, 58, rfl⟩
abbrev main_call1_call0_call0_v0 : Ref sig .tc := ⟨.hbm, 59, rfl⟩
abbrev main_call1_call0_call0_c : Ref sig .tc := ⟨.hbm, 60, rfl⟩
abbrev main_call1_call0_call0_v1 : Ref sig .tc := ⟨.hbm, 61, rfl⟩
abbrev main_call1_call0_call0_v2 : Ref sig .tc := ⟨.hbm, 62, rfl⟩
abbrev main_call1_call0_call0_v3 : Ref sig .tc := ⟨.hbm, 63, rfl⟩
abbrev main_call1_call0_call0_v4 : Ref sig .tc := ⟨.hbm, 64, rfl⟩
abbrev main_call1_call0_call0_v5 : Ref sig .tc := ⟨.hbm, 65, rfl⟩
abbrev main_call1_call0_call0_v6 : Ref sig .tc := ⟨.hbm, 66, rfl⟩
abbrev main_call1_call0_call0_c_0 : Ref sig .tc := ⟨.hbm, 67, rfl⟩
abbrev main_call1_call0_call0_v7 : Ref sig .tc := ⟨.hbm, 68, rfl⟩
abbrev main_call1_call0_call0_v8 : Ref sig .tc := ⟨.hbm, 69, rfl⟩
abbrev main_call1_call0_call0_c_1 : Ref sig .tc := ⟨.hbm, 70, rfl⟩
abbrev main_call1_call0_call0_v9 : Ref sig .tc := ⟨.hbm, 71, rfl⟩
abbrev main_call1_call0_call0_v10 : Ref sig .tc := ⟨.hbm, 72, rfl⟩
abbrev main_call1_call0_call0_v11 : Ref sig .tc := ⟨.hbm, 73, rfl⟩
abbrev main_call1_call0_call0_v12 : Ref sig .tc := ⟨.hbm, 74, rfl⟩
abbrev main_call1_call0_call0_v13 : Ref sig .tc := ⟨.hbm, 75, rfl⟩
abbrev main_call1_call0_call0_c_2 : Ref sig .tc := ⟨.hbm, 76, rfl⟩
abbrev main_call1_call0_call0_v14 : Ref sig .tc := ⟨.hbm, 77, rfl⟩
abbrev main_call1_call0_call0_v15 : Ref sig .tc := ⟨.hbm, 78, rfl⟩
abbrev main_call1_call0_call0_c_3 : Ref sig .tc := ⟨.hbm, 79, rfl⟩
abbrev main_call1_call0_call0_v16 : Ref sig .tc := ⟨.hbm, 80, rfl⟩
abbrev main_call1_call0_call0_v17 : Ref sig .tc := ⟨.hbm, 81, rfl⟩
abbrev main_call1_call0_call0_v18 : Ref sig .tc := ⟨.hbm, 82, rfl⟩
abbrev main_call1_call0_call0_v19 : Ref sig .tc := ⟨.hbm, 83, rfl⟩
abbrev main_call1_call0_call0_v20 : Ref sig .tc := ⟨.hbm, 84, rfl⟩
abbrev main_call1_call0_call0_c_4 : Ref sig .tc := ⟨.hbm, 85, rfl⟩
abbrev main_call1_call0_call0_v21 : Ref sig .tc := ⟨.hbm, 86, rfl⟩
abbrev main_call1_call0_call0_v22 : Ref sig .tc := ⟨.hbm, 87, rfl⟩
abbrev main_call1_call0_call0_c_5 : Ref sig .tc := ⟨.hbm, 88, rfl⟩
abbrev main_call1_call0_call0_v23 : Ref sig .tc := ⟨.hbm, 89, rfl⟩
abbrev main_call1_call0_call0_v24 : Ref sig .tc := ⟨.hbm, 90, rfl⟩
abbrev main_call1_call0_call0_v25 : Ref sig .tc := ⟨.hbm, 91, rfl⟩
abbrev main_call1_call0_call0_v26 : Ref sig .tc := ⟨.hbm, 92, rfl⟩
abbrev main_call1_call0_call0_v27 : Ref sig .tc := ⟨.hbm, 93, rfl⟩
abbrev main_call1_call0_call0_c_6 : Ref sig .tc := ⟨.hbm, 94, rfl⟩
abbrev main_call1_call0_call0_v28 : Ref sig .tc := ⟨.hbm, 95, rfl⟩
abbrev main_call1_call0_call0_v29 : Ref sig .tc := ⟨.hbm, 96, rfl⟩
abbrev main_call1_call0_call0_c_7 : Ref sig .tc := ⟨.hbm, 97, rfl⟩
abbrev main_call1_call0_call0_v30 : Ref sig .tc := ⟨.hbm, 98, rfl⟩
abbrev main_call1_call0_call0_v31 : Ref sig .tc := ⟨.hbm, 99, rfl⟩
abbrev main_call1_call0_call0_v32 : Ref sig .tc := ⟨.hbm, 100, rfl⟩
abbrev main_call1_call0_call0_v33 : Ref sig .tc := ⟨.hbm, 101, rfl⟩
abbrev main_call1_call0_call0_v34 : Ref sig .tc := ⟨.hbm, 102, rfl⟩
abbrev main_call1_call0_call0_v35 : Ref sig .tc := ⟨.hbm, 103, rfl⟩
abbrev main_call1_call0_call0_v36 : Ref sig .tc := ⟨.hbm, 104, rfl⟩
abbrev main_call1_call0_call0_v37 : Ref sig .tc := ⟨.hbm, 105, rfl⟩
abbrev main_call1_call0_call0_c_8 : Ref sig .tc := ⟨.hbm, 106, rfl⟩
abbrev main_call1_call0_call0_v38 : Ref sig .tc := ⟨.hbm, 107, rfl⟩
abbrev main_call1_call0_call0_v39 : Ref sig .tc := ⟨.hbm, 108, rfl⟩
abbrev main_call1_call0_call0_v40 : Ref sig .tc := ⟨.hbm, 109, rfl⟩
abbrev main_call1_call0_call0_c_9 : Ref sig .tc := ⟨.hbm, 110, rfl⟩
abbrev main_call1_call0_call0_v41 : Ref sig .tc := ⟨.hbm, 111, rfl⟩
abbrev main_call1_call0_call0_v42 : Ref sig .tc := ⟨.hbm, 112, rfl⟩
abbrev main_call1_call0_call0_c_10 : Ref sig .tc := ⟨.hbm, 113, rfl⟩
abbrev main_call1_call0_call0_v43 : Ref sig .tc := ⟨.hbm, 114, rfl⟩
abbrev main_call1_call0_call0_v44 : Ref sig .tc := ⟨.hbm, 115, rfl⟩
abbrev main_call1_call0_call0_v45 : Ref sig .tc := ⟨.hbm, 116, rfl⟩
abbrev main_call1_call0_call0_v46 : Ref sig .tc := ⟨.hbm, 117, rfl⟩
abbrev main_call1_call0_call0_v47 : Ref sig .tc := ⟨.hbm, 118, rfl⟩
abbrev main_call1_call0_call0_c_11 : Ref sig .tc := ⟨.hbm, 119, rfl⟩
abbrev main_call1_call0_call0_v48 : Ref sig .tc := ⟨.hbm, 120, rfl⟩
abbrev main_call1_call0_call0_v49 : Ref sig .tc := ⟨.hbm, 121, rfl⟩
abbrev main_call1_call0_call0_c_12 : Ref sig .tc := ⟨.hbm, 122, rfl⟩
abbrev main_call1_call0_call0_v50 : Ref sig .tc := ⟨.hbm, 123, rfl⟩
abbrev main_call1_call0_call0_v51 : Ref sig .tc := ⟨.hbm, 124, rfl⟩
abbrev main_call1_call0_call0_v52 : Ref sig .tc := ⟨.hbm, 125, rfl⟩
abbrev main_call1_call0_call0_v53 : Ref sig .tc := ⟨.hbm, 126, rfl⟩
abbrev main_call1_call0_call0_v54 : Ref sig .tc := ⟨.hbm, 127, rfl⟩
abbrev main_call1_call0_call0_c_13 : Ref sig .tc := ⟨.hbm, 128, rfl⟩
abbrev main_call1_call0_call0_v55 : Ref sig .tc := ⟨.hbm, 129, rfl⟩
abbrev main_call1_call0_call0_v56 : Ref sig .tc := ⟨.hbm, 130, rfl⟩
abbrev main_call1_call0_call0_c_14 : Ref sig .tc := ⟨.hbm, 131, rfl⟩
abbrev main_call1_call0_call0_v57 : Ref sig .tc := ⟨.hbm, 132, rfl⟩
abbrev main_call1_call0_call0_v58 : Ref sig .tc := ⟨.hbm, 133, rfl⟩
abbrev main_call1_call0_call0_v59 : Ref sig .tc := ⟨.hbm, 134, rfl⟩
abbrev main_call1_call0_call0_v60 : Ref sig .tc := ⟨.hbm, 135, rfl⟩
abbrev main_call1_call0_call0_v61 : Ref sig .tc := ⟨.hbm, 136, rfl⟩
abbrev main_call1_call0_call0_c_15 : Ref sig .tc := ⟨.hbm, 137, rfl⟩
abbrev main_call1_call0_call0_v62 : Ref sig .tc := ⟨.hbm, 138, rfl⟩
abbrev main_call1_call0_call0_v63 : Ref sig .tc := ⟨.hbm, 139, rfl⟩
abbrev main_call1_call0_call0_c_16 : Ref sig .tc := ⟨.hbm, 140, rfl⟩
abbrev main_call1_call0_call0_v64 : Ref sig .tc := ⟨.hbm, 141, rfl⟩
abbrev main_call1_call0_call0_v65 : Ref sig .tc := ⟨.hbm, 142, rfl⟩
abbrev main_call1_call0_call0_v66 : Ref sig .tc := ⟨.hbm, 143, rfl⟩
abbrev main_call1_call0_call0_v67 : Ref sig .tc := ⟨.hbm, 144, rfl⟩
abbrev main_call1_call0_call0_v68 : Ref sig .tc := ⟨.hbm, 145, rfl⟩
abbrev main_call1_call0_call0_v69 : Ref sig .tc := ⟨.hbm, 146, rfl⟩
abbrev main_call1_call0_call0_v70 : Ref sig .tc := ⟨.hbm, 147, rfl⟩
abbrev main_call1_call0_call0_v71 : Ref sig .tc := ⟨.hbm, 148, rfl⟩
abbrev main_call1_call0_call0_c_17 : Ref sig .tc := ⟨.hbm, 149, rfl⟩
abbrev main_call1_call0_call0_v72 : Ref sig .tc := ⟨.hbm, 150, rfl⟩
abbrev main_call1_call0_call0_v73 : Ref sig .tc := ⟨.hbm, 151, rfl⟩
abbrev main_call1_call0_call0_v74 : Ref sig .tc := ⟨.hbm, 152, rfl⟩
abbrev main_call1_call0_call0_c_18 : Ref sig .tc := ⟨.hbm, 153, rfl⟩
abbrev main_call1_call0_call0_v75 : Ref sig .tc := ⟨.hbm, 154, rfl⟩
abbrev main_call1_call0_call0_v76 : Ref sig .tc := ⟨.hbm, 155, rfl⟩
abbrev main_call1_call0_call0_c_19 : Ref sig .tc := ⟨.hbm, 156, rfl⟩
abbrev main_call1_call0_call0_v77 : Ref sig .tc := ⟨.hbm, 157, rfl⟩
abbrev main_call1_call0_call0_v78 : Ref sig .tc := ⟨.hbm, 158, rfl⟩
abbrev main_call1_call0_call0_v79 : Ref sig .tc := ⟨.hbm, 159, rfl⟩
abbrev main_call1_call0_call0_v80 : Ref sig .tc := ⟨.hbm, 160, rfl⟩
abbrev main_call1_call0_call0_v81 : Ref sig .tc := ⟨.hbm, 161, rfl⟩
abbrev main_call1_call0_call0_c_20 : Ref sig .tc := ⟨.hbm, 162, rfl⟩
abbrev main_call1_call0_call0_v82 : Ref sig .tc := ⟨.hbm, 163, rfl⟩
abbrev main_call1_call0_call0_v83 : Ref sig .tc := ⟨.hbm, 164, rfl⟩
abbrev main_call1_call0_call0_c_21 : Ref sig .tc := ⟨.hbm, 165, rfl⟩
abbrev main_call1_call0_call0_v84 : Ref sig .tc := ⟨.hbm, 166, rfl⟩
abbrev main_call1_call0_call0_v85 : Ref sig .tc := ⟨.hbm, 167, rfl⟩
abbrev main_call1_call0_call0_v86 : Ref sig .tc := ⟨.hbm, 168, rfl⟩
abbrev main_call1_call0_call0_v87 : Ref sig .tc := ⟨.hbm, 169, rfl⟩
abbrev main_call1_call0_call0_v88 : Ref sig .tc := ⟨.hbm, 170, rfl⟩
abbrev main_call1_call0_call0_c_22 : Ref sig .tc := ⟨.hbm, 171, rfl⟩
abbrev main_call1_call0_call0_v89 : Ref sig .tc := ⟨.hbm, 172, rfl⟩
abbrev main_call1_call0_call0_v90 : Ref sig .tc := ⟨.hbm, 173, rfl⟩
abbrev main_call1_call0_call0_c_23 : Ref sig .tc := ⟨.hbm, 174, rfl⟩
abbrev main_call1_call0_call0_v91 : Ref sig .tc := ⟨.hbm, 175, rfl⟩
abbrev main_call1_call0_call0_v92 : Ref sig .tc := ⟨.hbm, 176, rfl⟩
abbrev main_call1_call0_call0_v93 : Ref sig .tc := ⟨.hbm, 177, rfl⟩
abbrev main_call1_call0_call0_v94 : Ref sig .tc := ⟨.hbm, 178, rfl⟩
abbrev main_call1_call0_call0_v95 : Ref sig .tc := ⟨.hbm, 179, rfl⟩
abbrev main_call1_call0_call0_c_24 : Ref sig .tc := ⟨.hbm, 180, rfl⟩
abbrev main_call1_call0_call0_v96 : Ref sig .tc := ⟨.hbm, 181, rfl⟩
abbrev main_call1_call0_call0_v97 : Ref sig .tc := ⟨.hbm, 182, rfl⟩
abbrev main_call1_call0_call0_c_25 : Ref sig .tc := ⟨.hbm, 183, rfl⟩
abbrev main_call1_call0_call0_v98 : Ref sig .tc := ⟨.hbm, 184, rfl⟩
abbrev main_call1_call0_call0_v99 : Ref sig .tc := ⟨.hbm, 185, rfl⟩
abbrev main_call1_call0_call0_v100 : Ref sig .tc := ⟨.hbm, 186, rfl⟩
abbrev main_call1_call0_call0_v101 : Ref sig .tc := ⟨.hbm, 187, rfl⟩
abbrev main_call1_call0_call0_v102 : Ref sig .tc := ⟨.hbm, 188, rfl⟩
abbrev main_call1_call0_call0_v103 : Ref sig .tc := ⟨.hbm, 189, rfl⟩
abbrev main_call1_call0_call0_v104 : Ref sig .tc := ⟨.hbm, 190, rfl⟩
abbrev main_call1_call0_call0_v105 : Ref sig .tc := ⟨.hbm, 191, rfl⟩
abbrev main_call1_call0_call0_c_26 : Ref sig .tc := ⟨.hbm, 192, rfl⟩
abbrev main_call1_call0_call0_v106 : Ref sig .tc := ⟨.hbm, 193, rfl⟩
abbrev main_call1_call0_call0_v107 : Ref sig .tc := ⟨.hbm, 194, rfl⟩
abbrev main_call1_call0_call0_v108 : Ref sig .tc := ⟨.hbm, 195, rfl⟩
abbrev main_call1_call0_call0_c_27 : Ref sig .tc := ⟨.hbm, 196, rfl⟩
abbrev main_call1_call0_call0_v109 : Ref sig .tc := ⟨.hbm, 197, rfl⟩
abbrev main_call1_call0_call0_v110 : Ref sig .tc := ⟨.hbm, 198, rfl⟩
abbrev main_call1_call0_call0_c_28 : Ref sig .tc := ⟨.hbm, 199, rfl⟩
abbrev main_call1_call0_call0_v111 : Ref sig .tc := ⟨.hbm, 200, rfl⟩
abbrev main_call1_call0_call0_v112 : Ref sig .tc := ⟨.hbm, 201, rfl⟩
abbrev main_call1_call0_call0_v113 : Ref sig .tc := ⟨.hbm, 202, rfl⟩
abbrev main_call1_call0_call0_v114 : Ref sig .tc := ⟨.hbm, 203, rfl⟩
abbrev main_call1_call0_call0_v115 : Ref sig .tc := ⟨.hbm, 204, rfl⟩
abbrev main_call1_call0_call0_c_29 : Ref sig .tc := ⟨.hbm, 205, rfl⟩
abbrev main_call1_call0_call0_v116 : Ref sig .tc := ⟨.hbm, 206, rfl⟩
abbrev main_call1_call0_call0_v117 : Ref sig .tc := ⟨.hbm, 207, rfl⟩
abbrev main_call1_call0_call0_c_30 : Ref sig .tc := ⟨.hbm, 208, rfl⟩
abbrev main_call1_call0_call0_v118 : Ref sig .tc := ⟨.hbm, 209, rfl⟩
abbrev main_call1_call0_call0_v119 : Ref sig .tc := ⟨.hbm, 210, rfl⟩
abbrev main_call1_call0_call0_v120 : Ref sig .tc := ⟨.hbm, 211, rfl⟩
abbrev main_call1_call0_call0_v121 : Ref sig .tc := ⟨.hbm, 212, rfl⟩
abbrev main_call1_call0_call0_v122 : Ref sig .tc := ⟨.hbm, 213, rfl⟩
abbrev main_call1_call0_call0_c_31 : Ref sig .tc := ⟨.hbm, 214, rfl⟩
abbrev main_call1_call0_call0_v123 : Ref sig .tc := ⟨.hbm, 215, rfl⟩
abbrev main_call1_call0_call0_v124 : Ref sig .tc := ⟨.hbm, 216, rfl⟩
abbrev main_call1_call0_call0_c_32 : Ref sig .tc := ⟨.hbm, 217, rfl⟩
abbrev main_call1_call0_call0_v125 : Ref sig .tc := ⟨.hbm, 218, rfl⟩
abbrev main_call1_call0_call0_v126 : Ref sig .tc := ⟨.hbm, 219, rfl⟩
abbrev main_call1_call0_call0_v127 : Ref sig .tc := ⟨.hbm, 220, rfl⟩
abbrev main_call1_call0_call0_v128 : Ref sig .tc := ⟨.hbm, 221, rfl⟩
abbrev main_call1_call0_call0_v129 : Ref sig .tc := ⟨.hbm, 222, rfl⟩
abbrev main_call1_call0_call0_c_33 : Ref sig .tc := ⟨.hbm, 223, rfl⟩
abbrev main_call1_call0_call0_v130 : Ref sig .tc := ⟨.hbm, 224, rfl⟩
abbrev main_call1_call0_call0_v131 : Ref sig .tc := ⟨.hbm, 225, rfl⟩
abbrev main_call1_call0_call0_c_34 : Ref sig .tc := ⟨.hbm, 226, rfl⟩
abbrev main_call1_call0_call0_v132 : Ref sig .tc := ⟨.hbm, 227, rfl⟩
abbrev main_call1_call0_call0_v133 : Ref sig .tc := ⟨.hbm, 228, rfl⟩
abbrev main_call1_call0_call0_v134 : Ref sig .tc := ⟨.hbm, 229, rfl⟩
abbrev main_call1_call0_call0_v135 : Ref sig .tc := ⟨.hbm, 230, rfl⟩
abbrev main_call1_call0_call0_v136 : Ref sig .tc := ⟨.hbm, 231, rfl⟩
abbrev main_call1_call0_call0_v137 : Ref sig .tc := ⟨.hbm, 232, rfl⟩
abbrev main_call1_call0_call0_v138 : Ref sig .tc := ⟨.hbm, 233, rfl⟩
abbrev main_call1_call0_call0_v139 : Ref sig .tc := ⟨.hbm, 234, rfl⟩
abbrev main_call1_call0_call0_c_35 : Ref sig .tc := ⟨.hbm, 235, rfl⟩
abbrev main_call1_call0_call0_v140 : Ref sig .tc := ⟨.hbm, 236, rfl⟩
abbrev main_call1_call0_call0_v141 : Ref sig .tc := ⟨.hbm, 237, rfl⟩
abbrev main_call1_call0_call0_v142 : Ref sig .tc := ⟨.hbm, 238, rfl⟩
abbrev main_call1_call0_call0_c_36 : Ref sig .tc := ⟨.hbm, 239, rfl⟩
abbrev main_call1_call0_call0_v143 : Ref sig .tc := ⟨.hbm, 240, rfl⟩
abbrev main_call1_call0_call0_v144 : Ref sig .tc := ⟨.hbm, 241, rfl⟩
abbrev main_call1_call0_call0_c_37 : Ref sig .tc := ⟨.hbm, 242, rfl⟩
abbrev main_call1_call0_call0_v145 : Ref sig .tc := ⟨.hbm, 243, rfl⟩
abbrev main_call1_call0_call0_v146 : Ref sig .tc := ⟨.hbm, 244, rfl⟩
abbrev main_call1_call0_call0_v147 : Ref sig .tc := ⟨.hbm, 245, rfl⟩
abbrev main_call1_call0_call0_v148 : Ref sig .tc := ⟨.hbm, 246, rfl⟩
abbrev main_call1_call0_call0_v149 : Ref sig .tc := ⟨.hbm, 247, rfl⟩
abbrev main_call1_call0_call0_c_38 : Ref sig .tc := ⟨.hbm, 248, rfl⟩
abbrev main_call1_call0_call0_v150 : Ref sig .tc := ⟨.hbm, 249, rfl⟩
abbrev main_call1_call0_call0_v151 : Ref sig .tc := ⟨.hbm, 250, rfl⟩
abbrev main_call1_call0_call0_c_39 : Ref sig .tc := ⟨.hbm, 251, rfl⟩
abbrev main_call1_call0_call0_v152 : Ref sig .tc := ⟨.hbm, 252, rfl⟩
abbrev main_call1_call0_call0_v153 : Ref sig .tc := ⟨.hbm, 253, rfl⟩
abbrev main_call1_call0_call0_v154 : Ref sig .tc := ⟨.hbm, 254, rfl⟩
abbrev main_call1_call0_call0_v155 : Ref sig .tc := ⟨.hbm, 255, rfl⟩
abbrev main_call1_call0_call0_v156 : Ref sig .tc := ⟨.hbm, 256, rfl⟩
abbrev main_call1_call0_call0_c_40 : Ref sig .tc := ⟨.hbm, 257, rfl⟩
abbrev main_call1_call0_call0_v157 : Ref sig .tc := ⟨.hbm, 258, rfl⟩
abbrev main_call1_call0_call0_v158 : Ref sig .tc := ⟨.hbm, 259, rfl⟩
abbrev main_call1_call0_call0_c_41 : Ref sig .tc := ⟨.hbm, 260, rfl⟩
abbrev main_call1_call0_call0_v159 : Ref sig .tc := ⟨.hbm, 261, rfl⟩
abbrev main_call1_call0_call0_v160 : Ref sig .tc := ⟨.hbm, 262, rfl⟩
abbrev main_call1_call0_call0_v161 : Ref sig .tc := ⟨.hbm, 263, rfl⟩
abbrev main_call1_call0_call0_v162 : Ref sig .tc := ⟨.hbm, 264, rfl⟩
abbrev main_call1_call0_call0_v163 : Ref sig .tc := ⟨.hbm, 265, rfl⟩
abbrev main_call1_call0_call0_c_42 : Ref sig .tc := ⟨.hbm, 266, rfl⟩
abbrev main_call1_call0_call0_v164 : Ref sig .tc := ⟨.hbm, 267, rfl⟩
abbrev main_call1_call0_call0_v165 : Ref sig .tc := ⟨.hbm, 268, rfl⟩
abbrev main_call1_call0_call0_c_43 : Ref sig .tc := ⟨.hbm, 269, rfl⟩
abbrev main_call1_call0_call0_v166 : Ref sig .tc := ⟨.hbm, 270, rfl⟩
abbrev main_call1_call0_call0_v167 : Ref sig .tc := ⟨.hbm, 271, rfl⟩
abbrev main_call1_call0_call0_v168 : Ref sig .tc := ⟨.hbm, 272, rfl⟩
abbrev main_call1_call0_call0_v169 : Ref sig .tc := ⟨.hbm, 273, rfl⟩
abbrev main_call1_call0_call0_v170 : Ref sig .tc := ⟨.hbm, 274, rfl⟩
abbrev main_call1_call0_v27_0 : Ref sig .tc := ⟨.hbm, 275, rfl⟩
abbrev main_call1_call0_call0_v172 : Ref sig .tc := ⟨.hbm, 276, rfl⟩
abbrev main_call1_call0_call0_v173 : Ref sig .tc := ⟨.hbm, 277, rfl⟩
abbrev main_call1_call0_call0_c_44 : Ref sig .tc := ⟨.hbm, 278, rfl⟩
abbrev main_call1_call0_call0_v174 : Ref sig .tc := ⟨.hbm, 279, rfl⟩
abbrev main_call1_call0_v27_1 : Ref sig .tc := ⟨.hbm, 280, rfl⟩
abbrev main_call1_call0_v28 : Ref sig .tc := ⟨.hbm, 281, rfl⟩
abbrev main_call1_call0_c_4 : Ref sig .tc := ⟨.hbm, 282, rfl⟩
abbrev main_call1_call0_v29 : Ref sig .tc := ⟨.hbm, 283, rfl⟩
abbrev main_call1_call0_v30 : Ref sig .tc := ⟨.hbm, 284, rfl⟩
abbrev main_call1_call0_c_5 : Ref sig .tc := ⟨.hbm, 285, rfl⟩
abbrev main_call1_call0_v31 : Ref sig .tc := ⟨.hbm, 286, rfl⟩
abbrev main_call1_call0_v32 : Ref sig .tc := ⟨.hbm, 287, rfl⟩
abbrev main_call1_call0_v33 : Ref sig .tc := ⟨.hbm, 288, rfl⟩
abbrev main_call1_call0_cst : Ref sig .tc := ⟨.hbm, 289, rfl⟩
abbrev main_call1_call0_v34 : Ref sig .tc := ⟨.hbm, 290, rfl⟩
abbrev main_call1_call0_v35 : Ref sig .tc := ⟨.hbm, 291, rfl⟩
abbrev main_call1_call0_v36 : Ref sig .tc := ⟨.hbm, 292, rfl⟩
abbrev main_call1_call0_v37 : Ref sig .tc := ⟨.hbm, 293, rfl⟩
abbrev main_call1_call0_v38 : Ref sig .tc := ⟨.hbm, 294, rfl⟩
abbrev main_call1_call0_v39 : Ref sig .tc := ⟨.hbm, 295, rfl⟩
abbrev main_call1_call0_v40 : Ref sig .tc := ⟨.hbm, 296, rfl⟩
abbrev main_call1_call0_v41 : Ref sig .tc := ⟨.hbm, 297, rfl⟩
abbrev main_call1_v0 : Ref sig .tc := ⟨.hbm, 298, rfl⟩
abbrev main_v17 : Ref sig .tc := ⟨.hbm, 299, rfl⟩
abbrev main_cst : Ref sig .tc := ⟨.hbm, 300, rfl⟩
abbrev main_v18 : Ref sig .tc := ⟨.hbm, 301, rfl⟩
abbrev main_v19 : Ref sig .tc := ⟨.hbm, 302, rfl⟩
abbrev main_v20 : Ref sig .tc := ⟨.hbm, 303, rfl⟩
abbrev main_call3_v0 : Ref sig .tc := ⟨.hbm, 304, rfl⟩
abbrev main_call3_cst : Ref sig .tc := ⟨.hbm, 305, rfl⟩
abbrev main_call3_c : Ref sig .tc := ⟨.hbm, 306, rfl⟩
abbrev main_call3_v1_0 : Ref sig .tc := ⟨.hbm, 307, rfl⟩
abbrev main_v21 : Ref sig .tc := ⟨.hbm, 308, rfl⟩
abbrev main_c_2 : Ref sig .tc := ⟨.hbm, 309, rfl⟩
abbrev main_v22 : Ref sig .tc := ⟨.hbm, 310, rfl⟩
abbrev main_v23 : Ref sig .tc := ⟨.hbm, 311, rfl⟩
abbrev main_v24 : Ref sig .tc := ⟨.hbm, 312, rfl⟩
abbrev main_v25 : Ref sig .tc := ⟨.hbm, 313, rfl⟩
abbrev main_v26 : Ref sig .tc := ⟨.hbm, 314, rfl⟩
abbrev main_v27 : Ref sig .tc := ⟨.hbm, 315, rfl⟩
abbrev main_v28 : Ref sig .tc := ⟨.hbm, 316, rfl⟩
abbrev main_v29 : Ref sig .tc := ⟨.hbm, 317, rfl⟩
abbrev main_v30 : Ref sig .tc := ⟨.hbm, 318, rfl⟩
abbrev main_v31 : Ref sig .tc := ⟨.hbm, 319, rfl⟩
abbrev main_v32 : Ref sig .tc := ⟨.hbm, 320, rfl⟩
abbrev main_c_3 : Ref sig .tc := ⟨.hbm, 321, rfl⟩
abbrev main_call4_v0 : Ref sig .tc := ⟨.hbm, 322, rfl⟩
abbrev main_call4_c : Ref sig .tc := ⟨.hbm, 323, rfl⟩
abbrev main_call4_v1 : Ref sig .tc := ⟨.hbm, 324, rfl⟩
abbrev main_call4_c_0 : Ref sig .tc := ⟨.hbm, 325, rfl⟩
abbrev main_call4_v2 : Ref sig .tc := ⟨.hbm, 326, rfl⟩
abbrev main_call4_v3 : Ref sig .tc := ⟨.hbm, 327, rfl⟩
abbrev main_call4_v4 : Ref sig .tc := ⟨.hbm, 328, rfl⟩
abbrev main_call4_c_1 : Ref sig .tc := ⟨.hbm, 329, rfl⟩
abbrev main_call4_v5 : Ref sig .tc := ⟨.hbm, 330, rfl⟩
abbrev main_call4_v6 : Ref sig .tc := ⟨.hbm, 331, rfl⟩
abbrev main_call4_c_2 : Ref sig .tc := ⟨.hbm, 332, rfl⟩
abbrev main_call4_v7 : Ref sig .tc := ⟨.hbm, 333, rfl⟩
abbrev main_call4_v8 : Ref sig .tc := ⟨.hbm, 334, rfl⟩
abbrev main_call4_c_3 : Ref sig .tc := ⟨.hbm, 335, rfl⟩
abbrev main_call4_v9 : Ref sig .tc := ⟨.hbm, 336, rfl⟩
abbrev main_call4_v10 : Ref sig .tc := ⟨.hbm, 337, rfl⟩
abbrev main_call4_v11 : Ref sig .tc := ⟨.hbm, 338, rfl⟩
abbrev main_call4_v12 : Ref sig .tc := ⟨.hbm, 339, rfl⟩
abbrev main_call4_v13 : Ref sig .tc := ⟨.hbm, 340, rfl⟩
abbrev main_call4_v14 : Ref sig .tc := ⟨.hbm, 341, rfl⟩
abbrev main_v33 : Ref sig .tc := ⟨.hbm, 342, rfl⟩
abbrev main_call5_c : Ref sig .tc := ⟨.hbm, 343, rfl⟩
abbrev main_call5_v0 : Ref sig .tc := ⟨.hbm, 344, rfl⟩
abbrev main_call5_v1 : Ref sig .tc := ⟨.hbm, 345, rfl⟩
abbrev main_call5_c_0 : Ref sig .tc := ⟨.hbm, 346, rfl⟩
abbrev main_call5_v2 : Ref sig .tc := ⟨.hbm, 347, rfl⟩
abbrev main_call5_v3 : Ref sig .tc := ⟨.hbm, 348, rfl⟩
abbrev main_call5_v4 : Ref sig .tc := ⟨.hbm, 349, rfl⟩
abbrev main_call5_v5 : Ref sig .tc := ⟨.hbm, 350, rfl⟩
abbrev main_call5_c_1 : Ref sig .tc := ⟨.hbm, 351, rfl⟩
abbrev main_call5_c_2 : Ref sig .tc := ⟨.hbm, 352, rfl⟩
abbrev main_call5_v6 : Ref sig .tc := ⟨.hbm, 353, rfl⟩
abbrev main_call5_v7 : Ref sig .tc := ⟨.hbm, 354, rfl⟩
abbrev main_call5_v8 : Ref sig .tc := ⟨.hbm, 355, rfl⟩
abbrev main_call5_v9 : Ref sig .tc := ⟨.hbm, 356, rfl⟩
abbrev main_call5_v10 : Ref sig .tc := ⟨.hbm, 357, rfl⟩
abbrev main_call5_v11 : Ref sig .tc := ⟨.hbm, 358, rfl⟩
abbrev main_call5_c_3 : Ref sig .tc := ⟨.hbm, 359, rfl⟩
abbrev main_call5_v12 : Ref sig .tc := ⟨.hbm, 360, rfl⟩
abbrev main_call5_v13 : Ref sig .tc := ⟨.hbm, 361, rfl⟩
abbrev main_call5_cst : Ref sig .tc := ⟨.hbm, 362, rfl⟩
abbrev main_call5_v14 : Ref sig .tc := ⟨.hbm, 363, rfl⟩
abbrev main_v34 : Ref sig .tc := ⟨.hbm, 364, rfl⟩
abbrev main_v35 : Ref sig .tc := ⟨.hbm, 365, rfl⟩
abbrev main_v36 : Ref sig .tc := ⟨.hbm, 366, rfl⟩
abbrev main_cst_4 : Ref sig .tc := ⟨.hbm, 367, rfl⟩
abbrev main_v37 : Ref sig .tc := ⟨.hbm, 368, rfl⟩
abbrev main_cst_5 : Ref sig .tc := ⟨.hbm, 369, rfl⟩
abbrev main_v38 : Ref sig .tc := ⟨.hbm, 370, rfl⟩
abbrev main_c_6 : Ref sig .tc := ⟨.hbm, 371, rfl⟩
abbrev main_v39_0 : Ref sig .tc := ⟨.hbm, 372, rfl⟩
abbrev main_v39_1 : Ref sig .tc := ⟨.hbm, 373, rfl⟩
abbrev main_v39_2 : Ref sig .tc := ⟨.hbm, 374, rfl⟩
abbrev main_v39_3 : Ref sig .tc := ⟨.hbm, 375, rfl⟩
abbrev main_while0c_c_11 : Ref sig .tc := ⟨.hbm, 376, rfl⟩
abbrev main_while0c_v43 : Ref sig .tc := ⟨.hbm, 377, rfl⟩
abbrev main_while0b_call6_c : Ref sig .tc := ⟨.hbm, 378, rfl⟩
abbrev main_while0b_call6_c_0 : Ref sig .tc := ⟨.hbm, 379, rfl⟩
abbrev main_while0b_call6_c_1 : Ref sig .tc := ⟨.hbm, 380, rfl⟩
abbrev main_while0b_call6_c_2 : Ref sig .tc := ⟨.hbm, 381, rfl⟩
abbrev main_while0b_call6_v0 : Ref sig .tc := ⟨.hbm, 382, rfl⟩
abbrev main_while0b_v43 : Ref sig .tc := ⟨.hbm, 383, rfl⟩
abbrev main_while0b_v44 : Ref sig .tc := ⟨.hbm, 384, rfl⟩
abbrev main_while0b_cst_11 : Ref sig .tc := ⟨.hbm, 385, rfl⟩
abbrev main_while0b_v45 : Ref sig .tc := ⟨.hbm, 386, rfl⟩
abbrev main_while0b_v46 : Ref sig .tc := ⟨.hbm, 387, rfl⟩
abbrev main_while0b_v47 : Ref sig .tc := ⟨.hbm, 388, rfl⟩
abbrev main_while0b_call7_v0 : Ref sig .tc := ⟨.hbm, 389, rfl⟩
abbrev main_while0b_call7_c : Ref sig .tc := ⟨.hbm, 390, rfl⟩
abbrev main_while0b_call7_c_0 : Ref sig .tc := ⟨.hbm, 391, rfl⟩
abbrev main_while0b_call7_c_1 : Ref sig .tc := ⟨.hbm, 392, rfl⟩
abbrev main_while0b_call7_c_2 : Ref sig .tc := ⟨.hbm, 393, rfl⟩
abbrev main_while0b_v48 : Ref sig .tc := ⟨.hbm, 394, rfl⟩
abbrev main_while0b_c_12 : Ref sig .tc := ⟨.hbm, 395, rfl⟩
abbrev main_while0b_v49 : Ref sig .tc := ⟨.hbm, 396, rfl⟩
abbrev main_v40 : Ref sig .tc := ⟨.hbm, 397, rfl⟩
abbrev main_v41 : Ref sig .tc := ⟨.hbm, 398, rfl⟩
abbrev main_cst_7 : Ref sig .tc := ⟨.hbm, 399, rfl⟩
abbrev main_v42 : Ref sig .tc := ⟨.hbm, 400, rfl⟩

abbrev nD : Nat := 1
abbrev τ : Topo := Topo.v7x

variable {F : FTy → Type} [FloatOps F]

abbrev main_while0_count : Scf.Loop 32 := ⟨0#32, 128#32, 1#32⟩
-- ==== Proof.Filter.lean ====
/-
  The leaky integrator on the real numbers, and where a finite family first takes its greatest value.
  Nothing here speaks of a program.
-/
module

public import Mathlib.Algebra.BigOperators.Intervals
public import Mathlib.Algebra.BigOperators.Ring.Finset
public import Mathlib.Algebra.BigOperators.Fin
public import Mathlib.Data.EReal.Operations
public import Mathlib.Tactic.Linarith
public import Mathlib.Tactic.Ring

@[expose] public section

noncomputable section

namespace Cert.Proof.Filter

open Finset

/-- The weight that the input of step `u` has in the state after step `t`. -/
def coef (t u : ℕ) : ℝ := if u ≤ t then (2⁻¹ : ℝ) ^ (t - u + 1) else 0

/-- The integrator's state before step `n`: each step goes half of the way to its input. -/
def leak (g : ℕ → ℝ) : ℕ → ℝ
  | 0 => 0
  | n + 1 => leak g n + (g n - leak g n) / 2

/-- The state after step `t` is the sum of the inputs so far under their weights. -/
theorem leak_eq_sum_range (g : ℕ → ℝ) (t : ℕ) : leak g (t + 1) = ∑ u ∈ range (t + 1), coef t u * g u := by
  induction t with
  | zero => simp [leak, coef]; ring
  | succ t ih =>
    have h : ∀ u ∈ range (t + 1), coef (t + 1) u * g u = 2⁻¹ * (coef t u * g u) := by
      intro u hu
      have hu : u ≤ t := Nat.lt_succ_iff.mp (mem_range.mp hu)
      rw [coef, coef, if_pos hu, if_pos (Nat.le_succ_of_le hu), show t + 1 - u + 1 = (t - u + 1) + 1 by omega, pow_succ]
      ring
    rw [sum_range_succ, sum_congr rfl h, ← mul_sum, ← ih, coef, if_pos le_rfl, leak]
    simp
    ring

/-- The same over all of the 128 steps, those to come having weight zero. -/
theorem leak_eq_sum (g : ℕ → ℝ) (t : ℕ) (ht : t < 128) : leak g (t + 1) = ∑ u : Fin 128, coef t u * g u := by
  rw [leak_eq_sum_range, Fin.sum_univ_eq_sum_range (fun u => coef t u * g u)]
  refine sum_subset (fun u hu => mem_range.mpr (by have := mem_range.mp hu; omega)) fun u _ hu => ?_
  rw [coef, if_neg (by have := mt mem_range.mpr hu; omega), zero_mul]

/-- Weighing the inputs by the weights turned round by `r` is weighing the inputs shifted by `r`. -/
theorem sum_turned (f : Fin 128 → ℝ) (t r : ℕ) (hr : r ≤ 128) :
    ∑ j : Fin 128, coef t ((j.val + r) % 128) * f j
      = ∑ u : Fin 128, coef t u * f ⟨(u.val + (128 - r)) % 128, Nat.mod_lt _ (by decide)⟩ := by
  refine sum_bij' (fun j _ => ⟨(j.val + r) % 128, Nat.mod_lt _ (by decide)⟩)
    (fun u _ => ⟨(u.val + (128 - r)) % 128, Nat.mod_lt _ (by decide)⟩)
    (fun _ _ => mem_univ _) (fun _ _ => mem_univ _) ?_ ?_ ?_
  · intro j _; ext; show ((j.val + r) % 128 + (128 - r)) % 128 = j.val; have := j.isLt; omega
  · intro u _; ext; show ((u.val + (128 - r)) % 128 + r) % 128 = u.val; have := u.isLt; omega
  · intro j _
    congr 2
    ext; show j.val = ((j.val + r) % 128 + (128 - r)) % 128; have := j.isLt; omega

/-- The whole delay of neuron `k` on input `i`: `k - 16` on the first, `16 - k` on the second, none below zero. -/
def back (k : Fin 33) (i : Fin 2) : ℕ := if i.val = 0 then k.val - 16 else 16 - k.val

theorem back_le (k : Fin 33) (i : Fin 2) : back k i ≤ 16 := by
  have := k.isLt
  rw [back]
  split <;> omega

/-- `n` is the first place at which the family `f` takes its greatest value. -/
structure FirstMax (f : Fin 128 → EReal) (n : ℕ) : Prop where
  lt : n < 128
  le : ∀ j, f j ≤ f ⟨n, lt⟩
  before : ∀ j : Fin 128, j.val < n → f j < f ⟨n, lt⟩

/-- There is one first place only. -/
theorem FirstMax.unique {f : Fin 128 → EReal} {n n' : ℕ} (h : FirstMax f n) (h' : FirstMax f n') : n = n' := by
  rcases lt_trichotomy n n' with hlt | heq | hlt
  · exact absurd (h'.before ⟨n, h.lt⟩ hlt) (not_lt.mpr (h.le _))
  · exact heq
  · exact absurd (h.before ⟨n', h'.lt⟩ hlt) (not_lt.mpr (h'.le _))

end Cert.Proof.Filter

end
-- ==== Proof.Block1.lean ====
/-
  What one block of the kernel computes before its stores: the product of the constant with the block of the input,
  and how far the input may be turned back.
-/
module

public import proofs.«01_k».proof.Proof.Gen.KernelIdeal.Frame
public import proofs.«01_k».proof.Proof.Filter
public import Idealize.ShloMosaic.Lib.Pointwise
public import Idealize.ShloMosaic.Lib.Tactic.CleanTypes

@[expose] public section

set_option maxRecDepth 16384

noncomputable section

namespace Cert.Proof.Block

open Idealize.ShloMosaic Idealize.ShloMosaic.TcCoe
open Cert.KernelIdeal Cert.KernelIdeal.Gen Cert.Proof.Filter

variable (x0 : Vec Ideal S2x128x128 .f32) (x1 : Vec Ideal S2176x128 .bf16)

/-- The product of the constant with the first half of the block. -/
theorem product0 (p : Fin 2176) (r : Fin 128) :
    k0_pay70 x0 x1 (ix2 p r) = (∑ j : Fin 128, x1 (ix2 p j) * x0 (ix3 0 j r) : EReal) := by
  unfold k0_pay70
  unfold_payloads
  pointwise [id_eq, Ideal.ofBits_zero_f32]

/-- The product of the constant with the second half of the block. -/
theorem product1 (p : Fin 2176) (r : Fin 128) :
    k0_pay73 x0 x1 (ix2 p r) = (∑ j : Fin 128, x1 (ix2 p j) * x0 (ix3 1 j r) : EReal) := by
  unfold k0_pay73 k0_pay69
  unfold_payloads
  pointwise [id_eq, Ideal.ofBits_zero_f32]

/-- The lesser of two words, read as integers. -/
theorem minsi_toInt (a b : BitVec 32) : (IntOp.minsi a b).toInt = min a.toInt b.toInt := by
  unfold IntOp.minsi
  rcases lt_or_ge a.toInt b.toInt with h | h
  · simp [BitVec.slt, h, h.le]
  · simp [BitVec.slt, h, h.not_gt]

/-- The least of a family of words, read as integers. -/
theorem fold_minsi_toInt (b : BitVec 32) (g : Fin 128 → BitVec 32) :
    (Finset.fold IntOp.minsi b g Finset.univ).toInt
      = Finset.fold min b.toInt (fun j => (g j).toInt) Finset.univ :=
  (Finset.fold_hom (op := IntOp.minsi) (op' := min) minsi_toInt).symm

/-- Every family of 128 values has a first place at which it is greatest. -/
theorem exists_firstMax (f : Fin 128 → EReal) : ∃ a, FirstMax f a := by
  classical
  obtain ⟨m, -, hm⟩ := Finset.exists_max_image Finset.univ f Finset.univ_nonempty
  have hex : ∃ n, ∃ h : n < 128, f ⟨n, h⟩ = f m := ⟨m.val, m.isLt, rfl⟩
  obtain ⟨hl, he⟩ := Nat.find_spec hex
  refine ⟨Nat.find hex, hl, fun j => (hm j (Finset.mem_univ j)).trans_eq he.symm, fun j hj => ?_⟩
  refine lt_of_le_of_ne ((hm j (Finset.mem_univ j)).trans_eq he.symm) fun h => Nat.find_min hex hj ⟨j.isLt, h.trans he⟩

/-- Subtracting a step from 127 and cutting at 16, on words and on numbers. -/
theorem cut_word (a : Fin 128) :
    IntOp.minsi (IntOp.subi 127#32 (BitVec.ofNat 32 a.val)) 16#32 = BitVec.ofNat 32 (min (127 - a.val) 16) := by
  revert a
  decide +kernel

/-- A step's word, read back. -/
theorem step_word (j : Fin 128) : (BitVec.ofNat 32 j.val).toInt = (j.val : ℤ) := by
  revert j
  decide +kernel

/-- The search for the first greatest value: the greatest value, then the least step that has it. -/
theorem search (f : Fin 128 → EReal) (a : ℕ) (ha : FirstMax f a) [∀ x : EReal, ∀ j, Decidable (f j = x)] :
    Finset.fold IntOp.minsi 2147483647#32
        (fun j => if f j = Finset.fold max (Ideal.ofBits .f32 0xFF800000#32) f Finset.univ then BitVec.ofNat 32 j.val
          else 128#32) Finset.univ = BitVec.ofNat 32 a := by
  have hM : Finset.fold max (Ideal.ofBits .f32 0xFF800000#32) f Finset.univ = f ⟨a, ha.lt⟩ := by
    have h : Ideal.ofBits .f32 0xFF800000#32 = (⊥ : EReal) := by simp [Ideal.ofBits, Ideal.ieee]
    rw [h]
    refine le_antisymm (Finset.fold_max_le _ |>.mpr ⟨bot_le, fun j _ => ha.le j⟩) ?_
    exact (Finset.le_fold_max _).mpr (Or.inr ⟨_, Finset.mem_univ _, le_rfl⟩)
  rw [hM]
  refine BitVec.eq_of_toInt_eq ?_
  rw [fold_minsi_toInt, step_word ⟨a, ha.lt⟩]
  have h1 : (2147483647#32).toInt = 2147483647 := by decide
  have h2 : (128#32).toInt = 128 := by decide
  have hl := ha.lt
  refine le_antisymm ((Finset.fold_min_le _).mpr (Or.inr ⟨⟨a, hl⟩, Finset.mem_univ _, ?_⟩)) ?_
  · rw [if_pos rfl, step_word]
  · refine (Finset.le_fold_min _).mpr ⟨by rw [h1]; simp only; omega, fun j _ => ?_⟩
    split
    · rename_i h
      rw [step_word]
      by_contra hlt
      exact absurd h (ha.before j (by simp only at hlt; omega)).ne
    · rw [h2]
      simp only
      omega

/-- How far the first half of the block may be turned back, as the kernel has it. -/
theorem turn0 (r : Fin 128) (a : ℕ) (ha : FirstMax (fun j => x0 (ix3 0 j r)) a) :
    k0_pay71 x0 x1 (ix2 0 r) = BitVec.ofNat 32 (min (127 - a) 16) := by
  unfold k0_pay71
  unfold_payloads
  pointwise [id_eq, Ideal.ofBits_zero_f32]
  refine Eq.trans (congrArg (fun w => IntOp.minsi (IntOp.subi 127#32 w) 16#32) ?_) (cut_word ⟨a, ha.lt⟩)
  exact search _ a ha

/-- How far the second half of the block may be turned back, as the kernel has it. -/
theorem turn1 (r : Fin 128) (a : ℕ) (ha : FirstMax (fun j => x0 (ix3 1 j r)) a) :
    k0_pay74 x0 x1 (ix2 0 r) = BitVec.ofNat 32 (min (127 - a) 16) := by
  unfold k0_pay74
  unfold_payloads
  pointwise [id_eq, Ideal.ofBits_zero_f32]
  refine Eq.trans (congrArg (fun w => IntOp.minsi (IntOp.subi 127#32 w) 16#32) ?_) (cut_word ⟨a, ha.lt⟩)
  exact search _ a ha

/-- Row `t` of the product's block number `s` lies inside the product. -/
theorem row_lt (s : Fin 17) (t : Fin 128) : 128 * s.val + t.val < 2176 := by
  have := s.isLt
  have := t.isLt
  omega

/-- The product as turned as far as it may be: the block of the product that the turn names. -/
theorem far0 (t r : Fin 128) (s : Fin 17) (hs : k0_pay71 x0 x1 (ix2 0 r) = BitVec.ofNat 32 s.val) :
    k0_pay72 x0 x1 (ix2 t r) = k0_pay70 x0 x1 (ix2 ⟨128 * s.val + t.val, row_lt s t⟩ r) := by
  have e5 : k0_pay4 (View.ld x1 r0_0) (View.ld x0 r0_1) = k0_pay70 x0 x1 := rfl
  have e18 : k0_pay5 (View.ld x0 r0_1) = k0_pay71 x0 x1 := rfl
  unfold k0_pay72 k0_pay6
  simp only [e5, e18]
  generalize k0_pay70 x0 x1 = v5 at hs ⊢
  generalize k0_pay71 x0 x1 = v18 at hs ⊢
  unfold_payloads
  pointwise [id_eq]
  rw [hs]
  obtain ⟨s, h⟩ := s
  interval_cases s
  · exact congrArg (fun p => v5 (ix2 p r)) (Fin.ext (Nat.zero_add t.val).symm)
  all_goals rfl

/-- The same for the second half. -/
theorem far1 (t r : Fin 128) (s : Fin 17) (hs : k0_pay74 x0 x1 (ix2 0 r) = BitVec.ofNat 32 s.val) :
    k0_pay78 x0 x1 (ix2 t r) = k0_pay73 x0 x1 (ix2 ⟨128 * s.val + t.val, row_lt s t⟩ r) := by
  have e5 : k0_pay12 (k0_pay69 x0 x1) (View.ld x0 r0_2) = k0_pay73 x0 x1 := rfl
  have e18 : k0_pay13 (View.ld x0 r0_2) = k0_pay74 x0 x1 := rfl
  unfold k0_pay78 k0_pay75 k0_pay76 k0_pay77 k0_pay14
  simp only [e5, e18]
  generalize k0_pay73 x0 x1 = v5 at hs ⊢
  generalize k0_pay74 x0 x1 = v18 at hs ⊢
  unfold_payloads
  pointwise [id_eq]
  rw [hs]
  obtain ⟨s, h⟩ := s
  interval_cases s
  · exact congrArg (fun p => v5 (ix2 p r)) (Fin.ext (Nat.zero_add t.val).symm)
  all_goals rfl

end Cert.Proof.Block
-- ==== Proof.Block2.lean ====
/-
  What one block of the kernel stores: each of the 33 slices is a sum of two blocks of the two products.
-/
module

public import proofs.«01_k».proof.Proof.Block1
public import Idealize.ShloMosaic.Lib.Pipeline.ValueKit

@[expose] public section

set_option maxRecDepth 16384

noncomputable section

namespace Cert.Proof.Block

open Idealize.ShloMosaic Idealize.ShloMosaic.TcCoe
open Cert.KernelIdeal Cert.KernelIdeal.Gen Cert.Proof.Filter

/-- Of the delayed block and the farthest one, the kernel takes the one turned less. -/
theorem pick (v : S2176x128.Idx → EReal) (t r : Fin 128) (s b : Fin 17) (w : BitVec 32) (p : Fin 2176)
    (hw : w = BitVec.ofNat 32 b.val) (hp : p.val = 128 * b.val + t.val) :
    Scalar.select (IntOp.cmpi .sge (BitVec.ofNat 32 s.val) w) (v (ix2 p r))
        (v (ix2 ⟨128 * s.val + t.val, row_lt s t⟩ r))
      = v (ix2 ⟨128 * (min b s).val + t.val, row_lt _ t⟩ r) := by
  have h : IntOp.cmpi .sge (BitVec.ofNat 32 s.val) (BitVec.ofNat 32 b.val) = if b ≤ s then 1#1 else 0#1 := by
    clear hw hp
    revert s b
    decide +kernel
  obtain rfl : p = ⟨128 * b.val + t.val, row_lt b t⟩ := Fin.ext hp
  rw [hw, h]
  split
  · rename_i hle
    simp only [min_eq_left hle]
    rfl
  · rename_i hle
    simp only [min_eq_right (le_of_not_ge hle)]
    rfl

/-- An index of one stored slice, from its coordinates. -/
theorem slice_index (x : S1x128x128.Idx) (t r : Fin 128) (h1 : t.val = (x 1).val) (h2 : r.val = (x 2).val) :
    x = ix3 0 t r := by
  have h0 : (x 0).val = 0 := Nat.lt_one_iff.mp (x 0).isLt
  funext a
  fin_cases a
  · exact Fin.ext h0
  · exact Fin.ext h1.symm
  · exact Fin.ext h2.symm

variable (x0 : Vec Ideal S2x128x128 .f32) (x1 : Vec Ideal S2176x128 .bf16)

/-- The delay as a block number. -/
def backBlock (k : Fin 33) (i : Fin 2) : Fin 17 := ⟨back k i, Nat.lt_succ_of_le (back_le k i)⟩

/-- A slice of the block, at an index. -/
theorem stored (k : Fin 33) (t r : Fin 128) (s0 s1 : Fin 17)
    (h0 : k0_pay71 x0 x1 (ix2 0 r) = BitVec.ofNat 32 s0.val)
    (h1 : k0_pay74 x0 x1 (ix2 0 r) = BitVec.ofNat 32 s1.val) :
    out0_2 x0 x1 (ix3 k t r)
      = k0_pay70 x0 x1 (ix2 ⟨128 * (min (backBlock k 0) s0).val + t.val, row_lt _ t⟩ r)
        + k0_pay73 x0 x1 (ix2 ⟨128 * (min (backBlock k 1) s1).val + t.val, row_lt _ t⟩ r) := by
  have f0 := fun t => far0 x0 x1 t r s0 h0
  have f1 := fun t => far1 x0 x1 t r s1 h1
  have e : k0_pay19 (k0_pay73 x0 x1) (k0_pay74 x0 x1) (k0_pay75 x0 x1) (k0_pay76 x0 x1) (k0_pay77 x0 x1)
      = k0_pay78 x0 x1 := rfl
  unfold out0_2 k0_pay20
  simp only [e]
  generalize k0_pay70 x0 x1 = v5 at f0 ⊢
  generalize k0_pay71 x0 x1 = v18 at h0 ⊢
  generalize k0_pay72 x0 x1 = v115 at f0 ⊢
  generalize k0_pay73 x0 x1 = v119 at f1 ⊢
  generalize k0_pay74 x0 x1 = v132 at h1 ⊢
  generalize k0_pay78 x0 x1 = v229 at f1 ⊢
  canon_tiles x p
  all_goals
    rw [slice_index x t r p1 p2]
    have hx : (x 0).val = 0 := Nat.lt_one_iff.mp (x 0).isLt
    obtain ⟨k, hk⟩ := k
    change k = _ at p0
    rw [hx] at p0
    subst p0
    unfold_payloads
    pointwise [id_eq]
    rw [h0, h1, f0, f1]
    refine congrArg₂ (· + ·) (pick v5 t r s0 _ _ _ rfl ?_) (pick v119 t r s1 _ _ _ rfl ?_)
  all_goals first | rfl | exact (Nat.zero_add t.val).symm

end Cert.Proof.Block
-- ==== Proof.Table.lean ====
/-
  The kernel's constants: the integrator's matrix, whose row `t` has at column `u` the weight, in the state after step
  `t`, of the input of step `u`; and 17 blocks of it, block `s` with its columns turned round by `s`.
-/
module

public import proofs.«01_k».proof.KernelIdeal
public import proofs.«01_k».proof.Proof.Filter
public import Idealize.ShloMosaic.Lib.Tactic
public import Idealize.ShloMosaic.Lib.Pointwise

@[expose] public section

set_option maxRecDepth 16384

noncomputable section

namespace Cert.Proof.Table

open Idealize.ShloMosaic Cert.KernelIdeal Cert.Proof.Filter

/-- The word of a power of one half: the `d`-th below one half. The last two are subnormal. -/
def half (d : ℕ) : BitVec 32 :=
  if d < 126 then BitVec.ofNat 32 (0x3F000000 - d * 0x800000) else if d = 126 then 0x00400000#32 else 0x00200000#32

/-- The word of the weight of step `u` after step `t`. -/
def word (t u : ℕ) : BitVec 32 := if u ≤ t then half (t - u) else 0#32

/-- Row `t` of the matrix, in the form of the printed constant: by the last digit of the place. -/
abbrev row (t i : ℕ) : BitVec 32 := match i % 128 with
  | 0 => word t 0
  | 1 => word t 1
  | 2 => word t 2
  | 3 => word t 3
  | 4 => word t 4
  | 5 => word t 5
  | 6 => word t 6
  | 7 => word t 7
  | 8 => word t 8
  | 9 => word t 9
  | 10 => word t 10
  | 11 => word t 11
  | 12 => word t 12
  | 13 => word t 13
  | 14 => word t 14
  | 15 => word t 15
  | 16 => word t 16
  | 17 => word t 17
  | 18 => word t 18
  | 19 => word t 19
  | 20 => word t 20
  | 21 => word t 21
  | 22 => word t 22
  | 23 => word t 23
  | 24 => word t 24
  | 25 => word t 25
  | 26 => word t 26
  | 27 => word t 27
  | 28 => word t 28
  | 29 => word t 29
  | 30 => word t 30
  | 31 => word t 31
  | 32 => word t 32
  | 33 => word t 33
  | 34 => word t 34
  | 35 => word t 35
  | 36 => word t 36
  | 37 => word t 37
  | 38 => word t 38
  | 39 => word t 39
  | 40 => word t 40
  | 41 => word t 41
  | 42 => word t 42
  | 43 => word t 43
  | 44 => word t 44
  | 45 => word t 45
  | 46 => word t 46
  | 47 => word t 47
  | 48 => word t 48
  | 49 => word t 49
  | 50 => word t 50
  | 51 => word t 51
  | 52 => word t 52
  | 53 => word t 53
  | 54 => word t 54
  | 55 => word t 55
  | 56 => word t 56
  | 57 => word t 57
  | 58 => word t 58
  | 59 => word t 59
  | 60 => word t 60
  | 61 => word t 61
  | 62 => word t 62
  | 63 => word t 63
  | 64 => word t 64
  | 65 => word t 65
  | 66 => word t 66
  | 67 => word t 67
  | 68 => word t 68
  | 69 => word t 69
  | 70 => word t 70
  | 71 => word t 71
  | 72 => word t 72
  | 73 => word t 73
  | 74 => word t 74
  | 75 => word t 75
  | 76 => word t 76
  | 77 => word t 77
  | 78 => word t 78
  | 79 => word t 79
  | 80 => word t 80
  | 81 => word t 81
  | 82 => word t 82
  | 83 => word t 83
  | 84 => word t 84
  | 85 => word t 85
  | 86 => word t 86
  | 87 => word t 87
  | 88 => word t 88
  | 89 => word t 89
  | 90 => word t 90
  | 91 => word t 91
  | 92 => word t 92
  | 93 => word t 93
  | 94 => word t 94
  | 95 => word t 95
  | 96 => word t 96
  | 97 => word t 97
  | 98 => word t 98
  | 99 => word t 99
  | 100 => word t 100
  | 101 => word t 101
  | 102 => word t 102
  | 103 => word t 103
  | 104 => word t 104
  | 105 => word t 105
  | 106 => word t 106
  | 107 => word t 107
  | 108 => word t 108
  | 109 => word t 109
  | 110 => word t 110
  | 111 => word t 111
  | 112 => word t 112
  | 113 => word t 113
  | 114 => word t 114
  | 115 => word t 115
  | 116 => word t 116
  | 117 => word t 117
  | 118 => word t 118
  | 119 => word t 119
  | 120 => word t 120
  | 121 => word t 121
  | 122 => word t 122
  | 123 => word t 123
  | 124 => word t 124
  | 125 => word t 125
  | 126 => word t 126
  | 127 => word t 127
  | _ => 0#32

/-- The matrix, in the form of the printed constant: by the first digit of the place. -/
abbrev matrix (i : ℕ) : BitVec 32 := match i / 128 with
  | 0 => row 0 i
  | 1 => row 1 i
  | 2 => row 2 i
  | 3 => row 3 i
  | 4 => row 4 i
  | 5 => row 5 i
  | 6 => row 6 i
  | 7 => row 7 i
  | 8 => row 8 i
  | 9 => row 9 i
  | 10 => row 10 i
  | 11 => row 11 i
  | 12 => row 12 i
  | 13 => row 13 i
  | 14 => row 14 i
  | 15 => row 15 i
  | 16 => row 16 i
  | 17 => row 17 i
  | 18 => row 18 i
  | 19 => row 19 i
  | 20 => row 20 i
  | 21 => row 21 i
  | 22 => row 22 i
  | 23 => row 23 i
  | 24 => row 24 i
  | 25 => row 25 i
  | 26 => row 26 i
  | 27 => row 27 i
  | 28 => row 28 i
  | 29 => row 29 i
  | 30 => row 30 i
  | 31 => row 31 i
  | 32 => row 32 i
  | 33 => row 33 i
  | 34 => row 34 i
  | 35 => row 35 i
  | 36 => row 36 i
  | 37 => row 37 i
  | 38 => row 38 i
  | 39 => row 39 i
  | 40 => row 40 i
  | 41 => row 41 i
  | 42 => row 42 i
  | 43 => row 43 i
  | 44 => row 44 i
  | 45 => row 45 i
  | 46 => row 46 i
  | 47 => row 47 i
  | 48 => row 48 i
  | 49 => row 49 i
  | 50 => row 50 i
  | 51 => row 51 i
  | 52 => row 52 i
  | 53 => row 53 i
  | 54 => row 54 i
  | 55 => row 55 i
  | 56 => row 56 i
  | 57 => row 57 i
  | 58 => row 58 i
  | 59 => row 59 i
  | 60 => row 60 i
  | 61 => row 61 i
  | 62 => row 62 i
  | 63 => row 63 i
  | 64 => row 64 i
  | 65 => row 65 i
  | 66 => row 66 i
  | 67 => row 67 i
  | 68 => row 68 i
  | 69 => row 69 i
  | 70 => row 70 i
  | 71 => row 71 i
  | 72 => row 72 i
  | 73 => row 73 i
  | 74 => row 74 i
  | 75 => row 75 i
  | 76 => row 76 i
  | 77 => row 77 i
  | 78 => row 78 i
  | 79 => row 79 i
  | 80 => row 80 i
  | 81 => row 81 i
  | 82 => row 82 i
  | 83 => row 83 i
  | 84 => row 84 i
  | 85 => row 85 i
  | 86 => row 86 i
  | 87 => row 87 i
  | 88 => row 88 i
  | 89 => row 89 i
  | 90 => row 90 i
  | 91 => row 91 i
  | 92 => row 92 i
  | 93 => row 93 i
  | 94 => row 94 i
  | 95 => row 95 i
  | 96 => row 96 i
  | 97 => row 97 i
  | 98 => row 98 i
  | 99 => row 99 i
  | 100 => row 100 i
  | 101 => row 101 i
  | 102 => row 102 i
  | 103 => row 103 i
  | 104 => row 104 i
  | 105 => row 105 i
  | 106 => row 106 i
  | 107 => row 107 i
  | 108 => row 108 i
  | 109 => row 109 i
  | 110 => row 110 i
  | 111 => row 111 i
  | 112 => row 112 i
  | 113 => row 113 i
  | 114 => row 114 i
  | 115 => row 115 i
  | 116 => row 116 i
  | 117 => row 117 i
  | 118 => row 118 i
  | 119 => row 119 i
  | 120 => row 120 i
  | 121 => row 121 i
  | 122 => row 122 i
  | 123 => row 123 i
  | 124 => row 124 i
  | 125 => row 125 i
  | 126 => row 126 i
  | 127 => row 127 i
  | _ => 0#32

/-- The printed constant, entry by entry. -/
theorem printed (i : ℕ) : lit0t i = matrix i := by sl_kernel_rfl

theorem row_eq (t i : ℕ) : row t i = word t (i % 128) := by
  have h : i % 128 < 128 := Nat.mod_lt _ (by decide)
  unfold row
  generalize i % 128 = j at h
  interval_cases j <;> rfl

theorem matrix_eq (i : ℕ) (h : i / 128 < 128) : matrix i = row (i / 128) i := by
  unfold matrix
  generalize i / 128 = j at h
  interval_cases j <;> rfl

/-- One entry of the printed constant. -/
theorem entry (t u : Fin 128) : lit0t (t.val * 128 + u.val) = word t.val u.val := by
  have ht := t.isLt
  have hu := u.isLt
  rw [printed, matrix_eq _ (by omega), row_eq]
  congr 1 <;> omega

/-- The word at row `p` and column `j` of the 17 turned blocks. -/
def turned (p j : ℕ) : BitVec 32 := word (p % 128) ((j + p / 128) % 128)

theorem turned_block (s : Fin 17) (t j : Fin 128) :
    turned (128 * s.val + t.val) j.val = word t.val ((j.val + s.val) % 128) := by
  have ht := t.isLt
  unfold turned
  congr 2 <;> omega

end Cert.Proof.Table

end
-- ==== Proof.Stack.lean ====
/-
  The kernel's table before the weight: the integrator's matrix beside itself, its 17 windows of 128 columns, and the
  windows one below the other.
-/
module

public import proofs.«01_k».proof.Proof.Gen.KernelIdeal
public import proofs.«01_k».proof.Proof.Table
public import Idealize.ShloMosaic.PureOps.Ideal
public import Idealize.ShloMosaic.Lib.Tactic
public import Idealize.ShloMosaic.Lib.Pointwise
public import Idealize.ShloMosaic.Lib.Tactic.CleanTypes

@[expose] public section

set_option maxRecDepth 16384

noncomputable section

namespace Cert.Proof.Block

open Idealize.ShloMosaic Idealize.ShloMosaic.TcCoe
open Cert.KernelIdeal Cert.KernelIdeal.Gen

/-- The constant's word at a place is the one listed under the place's number. -/
theorem listed (i : Fin 16384) : lit0 i = lit0t i.val := by
  cases i
  sl_kernel_rfl

/-- The same at a row and a column. -/
theorem literal (t u : Fin 128) : lit0 (S128x128.rowMajor (ix2 t u)) = Table.word t.val u.val :=
  ((listed _).trans (congrArg lit0t (Shape.rowMajor_val_two (d := ![128, 128]) (ix2 t u)))).trans (Table.entry t u)

/-- The integrator's matrix. -/
def single : S128x128.Idx → EReal := fun y => Ideal.ofBits .f32 (lit0 (S128x128.rowMajor y))

/-- The matrix beside itself. -/
def double : S128x256.Idx → EReal :=
  concatenate S128x256 1 [⟨S128x128, single⟩, ⟨S128x128, single⟩] Gen.concatenates_S128x128_S128x128_S128x256_d1

theorem double_at (t : Fin 128) (q : Fin 256) :
    double (ix2 t q) = Ideal.ofBits .f32 (Table.word t.val (q.val % 128)) := by
  have hq := q.isLt
  unfold double
  pointwise [id_eq]
  split
  · rename_i h
    exact congrArg (Ideal.ofBits .f32) ((literal t ⟨q.val, h⟩).trans (by rw [Nat.mod_eq_of_lt h]))
  · rename_i h
    exact congrArg (Ideal.ofBits .f32) ((literal t ⟨q.val - 128, by omega⟩).trans
      (by rw [show q.val % 128 = q.val - 128 by omega]))

/-- The window of the doubled matrix that begins at column `k`. -/
def window (k : ℕ) (h : S128x256.Slices ![0, k] S128x128) : S128x128.Idx → EReal :=
  extractStridedSlice S128x128 ![0, k] double h

theorem window_at (k : ℕ) (h : S128x256.Slices ![0, k] S128x128) (hk : k < 17) (t j : Fin 128) :
    window k h (ix2 t j) = Ideal.ofBits .f32 (Table.word t.val ((j.val + k) % 128)) := by
  have hj := j.isLt
  refine Eq.trans ?_ ((double_at t ⟨k + j.val, by omega⟩).trans (by rw [Nat.add_comm j.val k]))
  unfold window
  pointwise [id_eq]

theorem fits : ∀ k : Fin 17, S128x256.Slices ![0, k.val] S128x128 := by decide +kernel

/-- Window `k`, as a piece to lay down. -/
abbrev piece (k : Fin 17) : (s : Shape) × (s.Idx → EReal) := ⟨S128x128, window k.val (fits k)⟩

/-- The first 16 windows, one below the other. -/
def tall : S2048x128.Idx → EReal :=
  concatenate S2048x128 0 [piece 0, piece 1, piece 2, piece 3, piece 4, piece 5, piece 6, piece 7, piece 8, piece 9,
    piece 10, piece 11, piece 12, piece 13, piece 14, piece 15] Gen.concatenates_S128x128_S128x128_S128x128_S128x128_S128x128_S128x128_S128x128_S128x128_S128x128_S128x128_S128x128_S128x128_S128x128_S128x128_S128x128_S128x128_S2048x128_d0

theorem tall_at (p : Fin 2048) (j : Fin 128) : tall (ix2 p j) = Ideal.ofBits .f32 (Table.turned p.val j.val) := by
  have hp := p.isLt
  refine (concatenate_ofFn_apply (t := S2048x128) (s₁ := S128x128) 0 (N := 16)
    (fun n => window n.val (fits ⟨n.val, by omega⟩)) _ rfl 128 rfl (ix2 p j) ⟨p.val / 128, by omega⟩ rfl
    (ix2 ⟨p.val % 128, Nat.mod_lt _ (by decide)⟩ j) rfl (fun b hb => ?_)).trans ?_
  · match b with
    | 0 => exact absurd rfl hb
    | 1 => rfl
  · exact window_at _ _ (by show p.val / 128 < 17; omega) _ _

/-- All 17 windows, one below the other. -/
def all : S2176x128.Idx → EReal :=
  concatenate S2176x128 0 [⟨S2048x128, tall⟩, piece 16] Gen.concatenates_S2048x128_S128x128_S2176x128_d0

theorem all_at (p : Fin 2176) (j : Fin 128) : all (ix2 p j) = Ideal.ofBits .f32 (Table.turned p.val j.val) := by
  have hp := p.isLt
  unfold all
  pointwise [id_eq]
  split
  · rename_i h
    exact tall_at ⟨p.val, h⟩ j
  · rename_i h
    refine (window_at 16 _ (by decide) ⟨p.val - 2048, by omega⟩ j).trans ?_
    unfold Table.turned
    rw [show p.val % 128 = p.val - 2048 by omega, show p.val / 128 = 16 by omega]

end Cert.Proof.Block

end
-- ==== Proof.Reads.lean ====
/-
  What the two input windows of the kernel hold at each grid point, read back to the arguments.
-/
module

public import proofs.«01_k».proof.Proof.Gen.KernelIdeal.Frame
public import proofs.«01_k».proof.Proof.Stack
public import Idealize.ShloMosaic.Lib.Pipeline.ValueKit
public import Idealize.ShloMosaic.Lib.Tactic
public import Idealize.ShloMosaic.Lib.Pointwise
public import Idealize.ShloMosaic.Lib.Tactic.CleanTypes
public import Idealize.ShloMosaic.Lib.StableHlo.RunRead

@[expose] public section

set_option maxRecDepth 16384

noncomputable section

namespace Cert.Proof.Block

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- The input as launched. -/
def input : S128x32x64x2.Idx → EReal := m ((c : Thread nD τ).loc main_arg0)
/-- The weight as launched. -/
def weight : S_.Idx → EReal := m ((c : Thread nD τ).loc main_arg2)
/-- The input as the region finds it: its last axis first, and its middle axes run together. -/
def vIn : S2x128x2048.Idx → EReal := V m c main_v1
/-- The weighted constant as the region finds it. -/
def vTable : S2176x128.Idx → EReal := V m c main_v24

/-- Where each window's block lies. -/
theorem placed : ∀ t : Fin cfg0.N, win0_0.index t = ![0, 0, t.val] ∧ win0_1.index t = ![0, 0]
    ∧ win0_2.index t = ![0, 0, t.val] := by
  decide +kernel

theorem vIn_at (i : Fin 2) (j : Fin 128) (q : Fin 2048) :
    vIn m c (ix3 i j q) = input m c (ix4 j ⟨q.val / 64, by have := q.isLt; omega⟩ ⟨q.val % 64, by omega⟩ i) := by
  unfold vIn input V V0
  simp only [List.flatten_cons, List.flatten_nil, List.append_nil]
  after_reads_simp
  clean_types
  pointwise [id_eq]

/-- The first 16 windows as the host lays them down. -/
theorem tall_eq : (upto hostOps0 (fun b => m (c, b)) 22 (Proc.tc.devRef main_v20) : S2048x128.Idx → EReal) = tall := by
  after_reads_simp
  rfl

/-- The last window. -/
theorem last_eq : (upto hostOps0 (fun b => m (c, b)) 22 (Proc.tc.devRef main_v19) : S128x128.Idx → EReal)
    = window 16 (fits 16) := by
  after_reads_simp
  rfl

theorem vTable_at (p : Fin 2176) (j : Fin 128) :
    vTable m c (ix2 p j) = Ideal.ofBits .f32 (Table.turned p.val j.val) * weight m c ix0 := by
  rw [← all_at]
  unfold vTable weight V V0 all
  simp only [List.flatten_cons, List.flatten_nil, List.append_nil]
  after_reads_simp
  clean_types
  pointwise [id_eq]
  rw [tall_eq, last_eq]

theorem block_in (t : Fin cfg0.N) (i : Fin 2) (j r : Fin 128) :
    iblk m c 0 t (ix3 i j r) = vIn m c (ix3 i j ⟨128 * t.val + r.val, by have := t.isLt; have : cfg0.N = 16 := rfl; omega⟩) := by
  unfold vIn
  blk_ext [iblk, placed t]

theorem block_table (t : Fin cfg0.N) : iblk m c 1 t = vTable m c := by
  unfold vTable
  funext y
  blk_ext [iblk, placed t]

end Cert.Proof.Block
-- ==== Proof.Weights.lean ====
module
public import proofs.«01_k».proof.Proof.Table
public import proofs.«01_k».proof.Proof.Filter

@[expose] public section

/-! The numbers that the words of the constant denote: powers of one half below the diagonal,
zero above it, so the constant holds the coefficients of the filter. -/

namespace Cert.Proof.Weights

open Idealize.ShloMosaic Cert.KernelIdeal Cert.Proof.Table Cert.Proof.Filter

/-- The three fields of the word of one half to the power `d + 1`, while it is a normal number. -/
theorem fields (d : Fin 126) :
    ((half d.val).extractLsb' 31 1 == 1#1) = false ∧
      ((half d.val).extractLsb' 23 8).toNat = 126 - d.val ∧
      ((half d.val).extractLsb' 0 23).toNat = 0 := by
  revert d
  decide +kernel

/-- The word `half d` denotes one half to the power `d + 1`. -/
theorem half_value (d : ℕ) (hd : d < 128) :
    Ideal.ofBits .f32 (half d) = (((2⁻¹ : ℝ) ^ (d + 1) : ℝ) : EReal) := by
  show Ideal.ieee 8 23 (half d) = _
  unfold Ideal.ieee
  rcases Nat.lt_or_ge d 126 with h | h
  · obtain ⟨hn, he, hf⟩ := fields ⟨d, h⟩
    simp only at hn he hf
    have h1 : ¬ 126 - d = 2 ^ 8 - 1 := by omega
    have h2 : ¬ 126 - d = 0 := by omega
    simp only [Nat.reduceAdd, hn, he, hf, h1, h2, if_false, Bool.false_eq_true]
    congr 1
    have h3 : ((126 - d : ℕ) : ℤ) - (2 ^ (8 - 1) - 1) - ((23 : ℕ) : ℤ) = -((d + 1 : ℕ) : ℤ) - 23 := by
      norm_num
      omega
    rw [h3, zpow_sub₀ (by norm_num), zpow_neg, zpow_natCast, inv_pow]
    norm_num
    ring
  · have h' : d = 126 ∨ d = 127 := by omega
    rcases h' with rfl | rfl
    · have hn : ((half 126).extractLsb' 31 1 == 1#1) = false := by decide +kernel
      have he : ((half 126).extractLsb' 23 8).toNat = 0 := by decide +kernel
      have hf : ((half 126).extractLsb' 0 23).toNat = 2 ^ 22 := by decide +kernel
      simp only [Nat.reduceAdd, hn, he, hf, if_false, Bool.false_eq_true]
      norm_num
    · have hn : ((half 127).extractLsb' 31 1 == 1#1) = false := by decide +kernel
      have he : ((half 127).extractLsb' 23 8).toNat = 0 := by decide +kernel
      have hf : ((half 127).extractLsb' 0 23).toNat = 2 ^ 21 := by decide +kernel
      simp only [Nat.reduceAdd, hn, he, hf, if_false, Bool.false_eq_true]
      norm_num

/-- The word for time `t` and time `u` denotes the filter's coefficient. -/
theorem word_value (t u : ℕ) (ht : t < 128) :
    Ideal.ofBits .f32 (word t u) = ((coef t u : ℝ) : EReal) := by
  unfold word coef
  split
  · rw [half_value _ (by omega)]
  · rw [Ideal.ofBits_zero_f32]
    norm_num

end Cert.Proof.Weights
-- ==== Proof.Value.lean ====
/-
  One block of the kernel over the reals: each slice is the sum of the two inputs' filtered and delayed steps.
-/
module

public import proofs.«01_k».proof.Proof.Block2
public import proofs.«01_k».proof.Proof.Reads
public import proofs.«01_k».proof.Proof.Weights

@[expose] public section

set_option maxRecDepth 16384

noncomputable section

namespace Cert.Proof.Block

open Idealize.ShloMosaic Idealize.ShloMosaic.TcCoe
open Cert.KernelIdeal Cert.KernelIdeal.Gen Cert.Proof.Filter

/-- A sum of real numbers is the same among the extended reals. -/
theorem coe_total (f : Fin 128 → ℝ) : (∑ j : Fin 128, (f j : EReal)) = ((∑ j : Fin 128, f j : ℝ) : EReal) :=
  (map_sum (⟨⟨Real.toEReal, EReal.coe_zero⟩, EReal.coe_add⟩ : ℝ →+ EReal) f Finset.univ).symm

/-- The filter's state after step `t` for the input turned back by `s` steps. -/
def filtered (f : Fin 128 → ℝ) (t s : ℕ) : ℝ :=
  ∑ u : Fin 128, coef t u.val * f ⟨(u.val + (128 - s)) % 128, Nat.mod_lt _ (by decide)⟩

/-- A row of block `s` of the weighted constant against the input is the filter of the input turned back by `s`. -/
theorem row_times (w : ℝ) (f : Fin 128 → ℝ) (s : Fin 17) (t : Fin 128) :
    ∑ j : Fin 128, Ideal.ofBits .f32 (Table.turned (128 * s.val + t.val) j.val) * (w : EReal) * (f j : EReal)
      = (filtered f t.val s.val : EReal) * (w : EReal) := by
  have h : ∀ j : Fin 128, Ideal.ofBits .f32 (Table.turned (128 * s.val + t.val) j.val) * (w : EReal) * (f j : EReal)
      = ((coef t.val ((j.val + s.val) % 128) * f j * w : ℝ) : EReal) := fun j => by
    rw [Table.turned_block, Weights.word_value _ _ t.isLt, ← EReal.coe_mul, ← EReal.coe_mul]
    congr 1
    ring
  rw [Finset.sum_congr rfl fun j _ => h j, coe_total, ← Finset.sum_mul,
    sum_turned f t.val s.val (by have := s.isLt; omega), EReal.coe_mul]
  rfl

variable (x0 : Vec Ideal S2x128x128 .f32) (x1 : Vec Ideal S2176x128 .bf16)

/-- A slice of the block, when the block holds real numbers and the table the weighted constant. -/
theorem block_at (w : ℝ) (f : Fin 2 → Fin 128 → ℝ) (a : Fin 2 → ℕ) (k : Fin 33) (t r : Fin 128)
    (h0 : ∀ i j, x0 (ix3 i j r) = (f i j : EReal))
    (h1 : ∀ p j, x1 (ix2 p j) = Ideal.ofBits .f32 (Table.turned p.val j.val) * (w : EReal))
    (ha : ∀ i, FirstMax (fun j => x0 (ix3 i j r)) (a i)) :
    out0_2 x0 x1 (ix3 k t r)
      = ∑ i : Fin 2, (filtered (f i) t.val (min (back k i) (127 - a i)) : EReal) * (w : EReal) := by
  have hs : ∀ i, min (127 - a i) 16 < 17 := fun i => by omega
  have hm : ∀ i, (min (backBlock k i) ⟨min (127 - a i) 16, hs i⟩ : Fin 17).val = min (back k i) (127 - a i) := fun i => by
    have := back_le k i
    rw [Fin.coe_min]
    show min (back k i) (min (127 - a i) 16) = _
    omega
  rw [stored x0 x1 k t r ⟨_, hs 0⟩ ⟨_, hs 1⟩ (turn0 x0 x1 r _ (ha 0)) (turn1 x0 x1 r _ (ha 1)), product0, product1,
    Fin.sum_univ_two, ← hm 0, ← hm 1, ← row_times, ← row_times]
  simp only [h0, h1]

end Cert.Proof.Block
-- ==== Proof.Array.lean ====
/-
  The kernel's array after the run, and its result: the blocks put together.
-/
module

public import proofs.«01_k».proof.Proof.Value

@[expose] public section

set_option maxRecDepth 16384

noncomputable section

namespace Cert.Proof.Block

open Idealize.ShloMosaic Idealize.ShloMosaic.TcCoe Idealize.ShloMosaic.StableHlo
open Cert.KernelIdeal Cert.KernelIdeal.Gen Cert.Proof.Filter

variable (m : (ℓ : Loc nD τ sig) → Buf (Elt Ideal) ℓ) (c : Dev nD)

/-- The launch's input and weight are real numbers, and `a` is where the input is first greatest. -/
structure Launch (x : Fin 128 → Fin 32 → Fin 64 → Fin 2 → ℝ) (w : ℝ) (a : Fin 32 → Fin 64 → Fin 2 → ℕ) : Prop where
  input_eq : ∀ t n d i, input m c (ix4 t n d i) = (x t n d i : EReal)
  weight_eq : weight m c ix0 = (w : EReal)
  first : ∀ n d i, FirstMax (fun t => input m c (ix4 t n d i)) (a n d i)

/-- The row that column `q` of the kernel's array belongs to. -/
def rowOf (q : Fin 2048) : Fin 32 := ⟨q.val / 64, by have := q.isLt; omega⟩
/-- The place in its row of column `q`. -/
def placeOf (q : Fin 2048) : Fin 64 := ⟨q.val % 64, by omega⟩

/-- What neuron `k` sums up at step `t` from the inputs in row `n` at place `d`. -/
def summed (x : Fin 128 → Fin 32 → Fin 64 → Fin 2 → ℝ) (w : ℝ) (a : Fin 32 → Fin 64 → Fin 2 → ℕ)
    (k : Fin 33) (t : Fin 128) (n : Fin 32) (d : Fin 64) : EReal :=
  ∑ i : Fin 2, (filtered (fun s => x s n d i) t.val (min (back k i) (127 - a n d i)) : EReal) * (w : EReal)

/-- The kernel's array, in closed form. -/
def total (x : Fin 128 → Fin 32 → Fin 64 → Fin 2 → ℝ) (w : ℝ) (a : Fin 32 → Fin 64 → Fin 2 → ℕ)
    (y : S33x128x2048.Idx) : EReal :=
  summed x w a (y 0) (y 1) (rowOf (y 2)) (placeOf (y 2))

/-- Column `r` of block `t` as a column of the array. -/
def column (t : Fin cfg0.N) (r : Fin 128) : Fin 2048 :=
  ⟨128 * t.val + r.val, by have := t.isLt; have : cfg0.N = 16 := rfl; omega⟩

/-- What the body leaves at point `t`, at an index. -/
theorem point (x : Fin 128 → Fin 32 → Fin 64 → Fin 2 → ℝ) (w : ℝ) (a : Fin 32 → Fin 64 → Fin 2 → ℕ)
    (h : Launch m c x w a) (t : Fin cfg0.N) (k : Fin 33) (p r : Fin 128) :
    out0_2 (iblk m c 0 t) (iblk m c 1 t) (ix3 k p r) = total x w a (ix3 k p (column t r)) := by
  refine block_at _ _ w (fun i s => x s (rowOf (column t r)) (placeOf (column t r)) i)
    (fun i => a (rowOf (column t r)) (placeOf (column t r)) i) k p r (fun i j => ?_) (fun q j => ?_) (fun i => ?_)
  · exact (block_in m c t i j r).trans ((vIn_at m c i j _).trans (h.input_eq _ _ _ _))
  · rw [block_table, vTable_at, h.weight_eq]
  · have e : (fun j => (iblk m c 0 t (ix3 i j r) : EReal))
        = fun j => input m c (ix4 j (rowOf (column t r)) (placeOf (column t r)) i) :=
      funext fun j => (block_in m c t i j r).trans (vIn_at m c i j _)
    exact e ▸ h.first _ _ i

/-- The kernel's array after the run. -/
theorem array_eq (x : Fin 128 → Fin 32 → Fin 64 → Fin 2 → ℝ) (w : ℝ) (a : Fin 32 → Fin 64 → Fin 2 → ℕ)
    (h : Launch m c x w a) : (dats m 0 c).arrAt 2 (cfgs 0).N = total x w a := by
  refine (dats m 0 c).arrAt_eq_of_covers 2 _ (by decide +kernel) fun t hf y => ?_
  blk_simp
  rw [after0_2]
  have ey : ∃ (k : Fin 33) (p r : Fin 128), y = ix3 k p r := ⟨_, _, _, eq_ix3 (n0 := 33) (n1 := 128) (n2 := 128) y⟩
  obtain ⟨k, p, r, rfl⟩ := ey
  refine (point m c x w a h t k p r).trans (congrArg (total x w a) ?_)
  unfold column
  blk_ext [placed t]

/-- The kernel's result, at an index. -/
theorem result_at (x : Fin 128 → Fin 32 → Fin 64 → Fin 2 → ℝ) (w : ℝ) (a : Fin 32 → Fin 64 → Fin 2 → ℕ)
    (h : Launch m c x w a) (t : Fin 128) (n : Fin 32) (d : Fin 64) (k : Fin 33) :
    (Pipeline.afterTail₀ cfgs (dats m) 0 (V0 m) [hostOps1] c main_v27 : S128x32x64x33.Idx → EReal) (ix4 t n d k)
      = summed x w a k t n d := by
  unfold Pipeline.afterTail₀
  simp only [List.flatten_cons, List.flatten_nil, List.append_nil]
  after_reads_simp
  clean_types
  pointwise [id_eq]
  refine (congrFun (Pipeline.withArrays_arr spec0 (by decide) c (V0 m c) (fun w => (dats m 0 c).arrAt w (cfgs 0).N) 2) _).trans ?_
  rw [array_eq m c x w a h]
  have hn : rowOf ⟨n.val * 64 + d.val, by have := n.isLt; have := d.isLt; omega⟩ = n := by
    have := d.isLt
    exact Fin.ext (show (n.val * 64 + d.val) / 64 = n.val by omega)
  have hd : placeOf ⟨n.val * 64 + d.val, by have := n.isLt; have := d.isLt; omega⟩ = d := by
    have := d.isLt
    exact Fin.ext (show (n.val * 64 + d.val) % 64 = d.val by omega)
  exact congrArg₂ (fun n d => summed x w a k t n d) hn hd

end Cert.Proof.Block
-- ==== Proof.Ref1.lean ====
/-
  The reference before its recurrence, stretch by stretch: the repeated input, the delays, and the delays rounded.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen

/-- The contents of all buffers of one device, read over the extended reals. -/
abbrev St := Valuation τ sig (Elt Ideal)

section
variable (V : St)

/-- The input. -/
def bIn : S128x32x64x2.Idx → EReal := V (Proc.devRef .tc main_arg0)
/-- The delays. -/
def bDelay : S33x1.Idx → EReal := V (Proc.devRef .tc main_arg1)
/-- The repeated input. -/
def bRep : S128x32x64x33x2.Idx → EReal := V (Proc.devRef .tc main_v2)
/-- The delays of both inputs, signed. -/
def bPair : S33x2.Idx → EReal := V (Proc.devRef .tc main_v4)
/-- The delays of both inputs, none below zero. -/
def bClip : S33x2.Idx → EReal := V (Proc.devRef .tc main_v5)
/-- Their whole parts, for every neuron. -/
def bFloor : S32x64x33x2.Idx → EReal := V (Proc.devRef .tc main_v8)
/-- What is left over the whole parts. -/
def bLeft : S32x64x33x2.Idx → EReal := V (Proc.devRef .tc main_v9)
/-- Which delays are rounded up. -/
def bUp : S32x64x33x2.Idx → BitVec 1 := V (Proc.devRef .tc main_v17)
/-- The whole parts and one. -/
def bNext : S32x64x33x2.Idx → EReal := V (Proc.devRef .tc main_v19)
/-- The delays rounded. -/
def bRound : S32x64x33x2.Idx → EReal := V (Proc.devRef .tc main_v20)
/-- Where the input is greatest. -/
def bArg : S32x64x33x2.Idx → BitVec 32 := V (Proc.devRef .tc main_v21)
/-- The step that each step reads, before it is brought within the 128 steps. -/
def bDiff : S128x32x64x33x2.Idx → BitVec 32 := V (Proc.devRef .tc main_v32)
/-- The number of steps. -/
def bSteps : S_.Idx → BitVec 32 := V (Proc.devRef .tc main_c_3)
/-- The step that each step reads. -/
def bSource : S128x32x64x33x2.Idx → BitVec 32 := V (Proc.devRef .tc main_v33)
/-- The delayed input. -/
def bShift : S128x32x64x33x2.Idx → EReal := V (Proc.devRef .tc main_v34)

/-- The input repeated along the delays. -/
theorem repeated (t : Fin 128) (n : Fin 32) (c : Fin 64) (k : Fin 33) (i : Fin 2) :
    bRep (after hostOps0 V) (ix5 t n c k i) = bIn V (ix4 t n c i) := by
  unfold bRep bIn
  after_reads_simp
  clean_types
  pointwise

/-- The delays and the delays negated, side by side. -/
theorem paired (k : Fin 33) (i : Fin 2) :
    bPair (after hostOps0 V) (ix2 k i) = if i.val = 0 then bDelay V (ix2 k 0) else - bDelay V (ix2 k 0) := by
  unfold bPair bDelay
  after_reads_simp
  clean_types
  fin_vals i with hi
  all_goals pointwise [hi]

/-- Nothing below zero. -/
theorem clipped (k : Fin 33) (i : Fin 2) : bClip (after hostOps0_1 V) (ix2 k i) = max (bPair V (ix2 k i)) 0 := by
  unfold bClip bPair
  after_reads_simp
  simp -implicitDefEqProofs only [TRef.toBuf, TRef.ofBuf, cast_eq]
  clean_types
  pointwise [Ideal.ofBits_zero_f32]

/-- The whole part of each delay, for all neurons. -/
theorem floored (n : Fin 32) (c : Fin 64) (k : Fin 33) (i : Fin 2) :
    bFloor (after hostOps0_2 V) (ix4 n c k i) = Ideal.liftRound Int.floor (bClip V (ix2 k i)) := by
  unfold bFloor bClip
  after_reads_simp
  clean_types
  pointwise

/-- What is left over the whole part. -/
theorem leftover (n : Fin 32) (c : Fin 64) (k : Fin 33) (i : Fin 2) :
    bLeft (after hostOps0_2 V) (ix4 n c k i) = bClip V (ix2 k i) - Ideal.liftRound Int.floor (bClip V (ix2 k i)) := by
  unfold bLeft bClip
  after_reads_simp
  clean_types
  pointwise

/-- The choice between the whole part and one more. -/
theorem chosen (j : S32x64x33x2.Idx) :
    bRound (after hostOps0_5 V) j = Scalar.select (bUp V j) (bNext V j) (bFloor V j) := by
  unfold bRound bUp bNext bFloor
  after_reads_simp
  simp -implicitDefEqProofs only [TRef.toBuf, TRef.ofBuf, cast_eq]
  clean_types
  pointwise

/-- Each step looks back by its delay, but not beyond where the input's end meets its greatest place. -/
theorem looked_back (t : Fin 128) (n : Fin 32) (c : Fin 64) (k : Fin 33) (i : Fin 2) :
    bDiff (after hostOps0_7 V) (ix5 t n c k i)
      = IntOp.subi (BitVec.ofNat 32 t.val)
          (FloatOps.fptosi (F := Ideal) (φ := .f32) 32 (min (bRound V (ix4 n c k i))
            (FloatOps.sitofp (F := Ideal) .f32 (IntOp.subi 127#32 (bArg V (ix4 n c k i)))))) := by
  unfold bDiff bRound bArg
  after_reads_simp
  clean_types
  pointwise

/-- There are 128 steps. -/
theorem steps : bSteps (after hostOps0_7 V) = fun _ => 128#32 := by
  unfold bSteps
  after_reads_simp
  rfl

end
end Cert.Proof.Ref
-- ==== Proof.Ref2.lean ====
/-
  The reference before its recurrence, continued: no delay is rounded up, the remainder, and the reading of the
  delayed input.
-/
module

public import proofs.«01_k».proof.Proof.Ref1

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen Cert.ReferenceIdeal.Value

section
variable (V : St)

/-- The remainder of a difference of two steps, one of the 17 delays back. -/
theorem wrapped_word (t : Fin 128) (r : Fin 17) :
    Scalar.select
      (IntOp.andi
        (IntOp.cmpi .ne
          (IntOp.cmpi .slt (IntOp.remsi .host (IntOp.subi (BitVec.ofNat 32 t.val) (BitVec.ofNat 32 r.val)) 128#32) 0#32)
          (IntOp.cmpi .slt 128#32 0#32))
        (IntOp.cmpi .ne (IntOp.remsi .host (IntOp.subi (BitVec.ofNat 32 t.val) (BitVec.ofNat 32 r.val)) 128#32) 0#32))
      (IntOp.addi (IntOp.remsi .host (IntOp.subi (BitVec.ofNat 32 t.val) (BitVec.ofNat 32 r.val)) 128#32) 128#32)
      (IntOp.remsi .host (IntOp.subi (BitVec.ofNat 32 t.val) (BitVec.ofNat 32 r.val)) 128#32)
      = BitVec.ofNat 32 ((t.val + (128 - r.val)) % 128) := by
  revert t r
  decide +kernel

/-- The remainder by the number of steps. -/
theorem wrapped (h : bSteps V = fun _ => 128#32) (j : S128x32x64x33x2.Idx) (t : Fin 128) (r : Fin 17)
    (hj : bDiff V j = IntOp.subi (BitVec.ofNat 32 t.val) (BitVec.ofNat 32 r.val)) :
    bSource (after hostOps0_8 V) j = BitVec.ofNat 32 ((t.val + (128 - r.val)) % 128) := by
  unfold bSource
  unfold bSteps at h
  unfold bDiff at hj
  after_reads_simp
  simp -implicitDefEqProofs only [TRef.toBuf, TRef.ofBuf, cast_eq]
  clean_types
  pointwise
  have h0 : id (V (Proc.devRef .tc main_c_3)) ix0 = 128#32 := congrFun h ix0
  have hc : Scalar.select (IntOp.cmpi CmpIPredicate.eq 128#32 0#32) (1#32) 128#32 = 128#32 := by decide
  simp only [h0, hc, hj]
  exact wrapped_word t r

/-- A step in range is itself, and passes the test of range. -/
theorem in_range (u : Fin 128) :
    Scalar.select (IntOp.cmpi .slt (BitVec.ofNat 32 u.val) 0#32) (IntOp.addi (BitVec.ofNat 32 u.val) 128#32)
        (BitVec.ofNat 32 u.val) = BitVec.ofNat 32 u.val
      ∧ IntOp.andi (IntOp.cmpi .sge (BitVec.ofNat 32 u.val) 0#32) (IntOp.cmpi .sle (BitVec.ofNat 32 u.val) 127#32) = 1#1
      ∧ (BitVec.ofNat 32 u.val).toInt.toNat = u.val := by
  revert u
  decide +kernel

/-- The gather along the steps: each place reads the step named there. -/
theorem gather_steps (x : S128x32x64x33x2.Idx → EReal) (idx : S128x32x64x33x2x1.Idx → BitVec 32)
    (t u : Fin 128) (n : Fin 32) (c : Fin 64) (k : Fin 33) (i : Fin 2)
    (h : (idx (ix6 t n c k i 0)).toInt.toNat = u.val) :
    Host.gather gather_S128x32x64x33x2_S128x32x64x33x2x1_S128x32x64x33x2_n_0_1234_1234_0_5_11111 x idx (ix5 t n c k i)
      = x (ix5 u n c k i) := by
  unfold Host.gather
  congr 1
  funext a
  refine Fin.ext ?_
  show GatherDims.start _ _ idx a + GatherDims.batchCoord _ _ a + GatherDims.offCoord _ _ a = _
  rw [GatherDims.offCoord_eq_zero _ _ _ (fun hm => by revert hm a; decide)]
  fin_cases a
  · rw [GatherDims.batchCoord_eq_zero _ _ _ (by decide), GatherDims.start, dif_pos (by decide)]
    have e : gather_S128x32x64x33x2_S128x32x64x33x2x1_S128x32x64x33x2_n_0_1234_1234_0_5_11111.siIdx (ix5 t n c k i)
        ⟨0, by decide⟩ = ix6 t n c k i 0 := by
      funext b
      fin_cases b <;> rfl
    show min (idx (GatherDims.siIdx _ _ ⟨0, _⟩)).toInt.toNat 127 + 0 + 0 = u.val
    rw [e, h]
    have := u.isLt
    omega
  all_goals rw [GatherDims.start_batching _ _ _ _ (by decide), GatherDims.batchCoord, dif_pos (by decide)]
  all_goals simp only [Nat.zero_add, Nat.add_zero]
  all_goals rfl

/-- A conjunction of tests that all hold holds. -/
theorem all_hold {ι : Type} (s : Finset ι) (f : ι → BitVec 1) (h : ∀ i ∈ s, f i = 1#1) :
    s.fold IntOp.andi (1#1) f = 1#1 := by
  classical
  induction s using Finset.induction_on with
  | empty => rfl
  | insert a s ha ih =>
    rw [Finset.fold_insert ha, h a (Finset.mem_insert_self a s), ih fun i hi => h i (Finset.mem_insert_of_mem hi)]
    rfl

/-- Each step's reading of the repeated input. -/
theorem gathered (t u : Fin 128) (n : Fin 32) (c : Fin 64) (k : Fin 33) (i : Fin 2)
    (h : bSource V (ix5 t n c k i) = BitVec.ofNat 32 u.val) :
    bShift (after hostOps0_9 V) (ix5 t n c k i) = bRep V (ix5 u n c k i) := by
  unfold bShift bRep
  unfold bSource at h
  obtain ⟨h1, h2, h3⟩ := in_range u
  after_reads_simp
  simp -implicitDefEqProofs only [TRef.toBuf, TRef.ofBuf, cast_eq]
  clean_types
  pointwise
  rw [all_hold, gather_steps _ _ t u n c k i]
  · rfl
  · refine (congrArg (fun w : BitVec 32 => w.toInt.toNat) ?_).trans h3
    refine Eq.trans ?_ h1
    rw [← h]
    rfl
  · intro y hy
    have hy : reducesTo_S128x32x64x33x2x1_S128x32x64x33x2_d5.drop y = ix5 t n c k i := (Finset.mem_filter.mp hy).2
    have e0 : y 0 = t := congrFun hy 0
    have e1 : y 1 = n := congrFun hy 1
    have e2 : y 2 = c := congrFun hy 2
    have e3 : y 3 = k := congrFun hy 3
    have e4 : y 4 = i := congrFun hy 4
    have e : V (Proc.devRef .tc main_v33) (ix5 (y 0) (y 1) (y 2) (y 3) (y 4)) = BitVec.ofNat 32 u.val := by
      rw [← h, e0, e1, e2, e3, e4]
    refine Eq.trans ?_ h2
    rw [← h1, ← e]

/-- The stretch that draws which delays are rounded up, but its first five operations and its last three. -/
abbrev drawMid : List (HloOp τ sig (Elt Ideal)) := (hostOps0_3.drop 5).take 267

/-- What those operations write, in order. -/
theorem drawMid_writes :
    drawMid.Forall fun op => op.writes ⊆ (((hostOps0_3_W.drop 5).take 267).map (Proc.devRef (τ := τ) .tc)).toFinset :=
  forall_writes_sub_of_map rfl

/-- With nothing left over no delay is rounded up. -/
theorem not_up (j : S32x64x33x2.Idx) (h : bLeft V j = 0) : bUp (after hostOps0_3 V) j = 0#1 := by
  have hcut : (hostOps0_3 : List (HloOp τ sig (Elt Ideal)))
      = hostOps0_3.take 5 ++ (drawMid ++ hostOps0_3.drop 272) := rfl
  unfold bUp
  unfold bLeft at h
  rw [hcut, after_append, after_append]
  have h2 : after drawMid (after (hostOps0_3.take 5) V) (Proc.devRef .tc main_call1_call0_v2)
      = after (hostOps0_3.take 5) V (Proc.devRef .tc main_call1_call0_v2) :=
    after_of_writes_sub _ _ drawMid_writes (by decide +kernel)
  have h9 : after drawMid (after (hostOps0_3.take 5) V) (Proc.devRef .tc main_v9)
      = after (hostOps0_3.take 5) V (Proc.devRef .tc main_v9) :=
    after_of_writes_sub _ _ drawMid_writes (by decide +kernel)
  have h2' : (after (hostOps0_3.take 5) V (Proc.devRef .tc main_call1_call0_v2) : S1x1x1x1.Idx → EReal)
      = fun _ => (0 : EReal) := by
    simp only [List.take_succ_cons, List.take_zero]
    after_reads_simp
    simp -implicitDefEqProofs only [TRef.toBuf, TRef.ofBuf, cast_eq]
    clean_types
    funext y
    pointwise [id_eq, Ideal.ofBits_zero_f32]
  have h9' : after (hostOps0_3.take 5) V (Proc.devRef .tc main_v9) = V (Proc.devRef .tc main_v9) := by
    simp only [List.take_succ_cons, List.take_zero]
    after_reads_simp
  rw [h2'] at h2
  rw [h9'] at h9
  generalize after drawMid (after (hostOps0_3.take 5) V) = W at h2 h9 ⊢
  simp only [List.drop_succ_cons, List.drop_zero]
  after_reads_simp
  simp -implicitDefEqProofs only [TRef.toBuf, TRef.ofBuf, cast_eq]
  clean_types
  pointwise
  have e2 : (W (Proc.devRef .tc main_call1_call0_v2) : S1x1x1x1.Idx → EReal) (ix4 0 0 0 0) = (0 : EReal) := congrFun h2 _
  have e9 : (W (Proc.devRef .tc main_v9) : S32x64x33x2.Idx → EReal) j = (0 : EReal) := (congrFun h9 j).trans h
  refine (congrArg (Ideal.cmp .olt _) e9).trans ?_
  refine (congrArg (fun z : EReal => Ideal.cmp .olt (max z _) 0) e2).trans ?_
  simp [Ideal.cmp]

end
end Cert.Proof.Ref
-- ==== Proof.Ref3.lean ====
/-
  The reference before its recurrence, continued: the reduction that finds where the input is greatest.
-/
module

public import proofs.«01_k».proof.Proof.Ref1
public import proofs.«01_k».proof.Proof.Filter

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen Cert.Proof.Filter

/-- `p` comes no later than `q`: it has the greater value, or the same value and no later an index. -/
def Beats (p q : EReal × BitVec 32) : Prop := q.1 < p.1 ∨ (q.1 = p.1 ∧ p.2.toInt ≤ q.2.toInt)

theorem Beats.refl (p : EReal × BitVec 32) : Beats p p := Or.inr ⟨rfl, le_rfl⟩

theorem Beats.trans {p q r : EReal × BitVec 32} (h : Beats p q) (h' : Beats q r) : Beats p r := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- The reduction's body keeps one of its two pairs, and the one kept comes no later than either. -/
theorem kept (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  rcases lt_trichotomy a1 b1 with h | h | h
  · have e : reducer_argmax_f32_i32 (F := Ideal) (a1, a2) (b1, b2) = (b1, b2) := by
      simp [reducer_argmax_f32_i32, Ideal.cmpf_def, Ideal.cmp, IntOp.ori, IntOp.andi, Scalar.select, h.ne, h.not_gt]
    rw [e]
    exact ⟨Or.inr rfl, Or.inl h, Beats.refl _⟩
  · subst h
    by_cases hi : a2.toInt < b2.toInt
    · have e : reducer_argmax_f32_i32 (F := Ideal) (a1, a2) (a1, b2) = (a1, a2) := by
        simp [reducer_argmax_f32_i32, Ideal.cmpf_def, Ideal.cmp, IntOp.ori, IntOp.andi, IntOp.cmpi, Scalar.select, BitVec.slt, hi]
      rw [e]
      exact ⟨Or.inl rfl, Beats.refl _, Or.inr ⟨rfl, hi.le⟩⟩
    · have e : reducer_argmax_f32_i32 (F := Ideal) (a1, a2) (a1, b2) = (a1, b2) := by
        simp [reducer_argmax_f32_i32, Ideal.cmpf_def, Ideal.cmp, IntOp.ori, IntOp.andi, IntOp.cmpi, Scalar.select, BitVec.slt, hi]
      rw [e]
      exact ⟨Or.inr rfl, Or.inr ⟨rfl, not_lt.mp hi⟩, Beats.refl _⟩
  · have e : reducer_argmax_f32_i32 (F := Ideal) (a1, a2) (b1, b2) = (a1, a2) := by
      simp [reducer_argmax_f32_i32, Ideal.cmpf_def, Ideal.cmp, IntOp.ori, IntOp.andi, Scalar.select, h, h.ne']
    rw [e]
    exact ⟨Or.inl rfl, Beats.refl _, Or.inl h⟩

/-- So the fold along a list keeps one of its pairs, and that comes no later than any. -/
theorem fold_kept (l : List (EReal × BitVec 32)) (p : EReal × BitVec 32) :
    l.foldl (reducer_argmax_f32_i32 (F := Ideal)) p ∈ p :: l
      ∧ ∀ q ∈ p :: l, Beats (l.foldl (reducer_argmax_f32_i32 (F := Ideal)) p) q := by
  induction l generalizing p with
  | nil => exact ⟨List.mem_cons_self, fun q hq => by rw [List.mem_singleton.mp hq]; exact Beats.refl p⟩
  | cons a l ih =>
    obtain ⟨hk, hp, ha⟩ := kept p a
    obtain ⟨hm, hb⟩ := ih (reducer_argmax_f32_i32 (F := Ideal) p a)
    rw [List.foldl_cons]
    refine ⟨?_, fun q hq => ?_⟩
    · rcases List.mem_cons.mp hm with hm | hm
      · rw [hm]
        rcases hk with hk | hk <;> rw [hk] <;> simp
      · exact List.mem_cons_of_mem _ (List.mem_cons_of_mem _ hm)
    · rcases List.mem_cons.mp hq with rfl | hq
      · exact (hb _ List.mem_cons_self).trans hp
      · rcases List.mem_cons.mp hq with rfl | hq
        · exact (hb _ List.mem_cons_self).trans ha
        · exact hb q (List.mem_cons_of_mem _ hq)

/-- A step as a word keeps its order. -/
theorem step_toInt (t : Fin 128) : (BitVec.ofNat 32 t.val).toInt = (t.val : ℤ) ∧ (BitVec.ofNat 32 t.val).toNat = t.val := by
  revert t
  decide +kernel

/-- The word that the reduction starts from is below everything. -/
theorem lowest : Ideal.ofBits .f32 0xFF800000#32 = ⊥ := by
  simp [Ideal.ofBits, Ideal.ieee]

variable (V : St)

/-- The pairs that are reduced into one place: every step's input with the number of the step. -/
theorem mem_fiber (x : S128x32x64x33x2.Idx → EReal) (n : Fin 32) (c : Fin 64) (k : Fin 33) (i : Fin 2)
    (q : EReal × BitVec 32) :
    q ∈ Host.argReduceFiber x (iotaInDim S128x32x64x33x2 32 0) reducesTo_S128x32x64x33x2_S32x64x33x2_d0 (ix4 n c k i)
      ↔ ∃ t : Fin 128, q = (x (ix5 t n c k i), BitVec.ofNat 32 t.val) := by
  unfold Host.argReduceFiber
  simp only [List.mem_map, List.mem_filter, List.mem_finRange, true_and, decide_eq_true_eq]
  constructor
  · rintro ⟨p, hp, rfl⟩
    generalize S128x32x64x33x2.rowMajor.symm p = y at hp ⊢
    have e : y = ix5 (y 0) n c k i := by
      rw [eq_ix5 y]
      have e0 : y 1 = n := congrFun hp 0
      have e1 : y 2 = c := congrFun hp 1
      have e2 : y 3 = k := congrFun hp 2
      have e3 : y 4 = i := congrFun hp 3
      rw [e0, e1, e2, e3]
      rfl
    exact ⟨y 0, by rw [e]; rfl⟩
  · rintro ⟨t, rfl⟩
    refine ⟨S128x32x64x33x2.rowMajor (ix5 t n c k i), ?_, ?_⟩
    · rw [Equiv.symm_apply_apply]
      funext b
      fin_cases b <;> rfl
    · rw [Equiv.symm_apply_apply]
      rfl

/-- Where the input is greatest, and first so. -/
theorem first_max (n : Fin 32) (c : Fin 64) (k : Fin 33) (i : Fin 2) :
    FirstMax (fun t => bRep V (ix5 t n c k i)) (bArg (after hostOps0_6 V) (ix4 n c k i)).toNat := by
  have e : bArg (after hostOps0_6 V) (ix4 n c k i)
      = ((Host.argReduceFiber (bRep V) (iotaInDim S128x32x64x33x2 32 0) reducesTo_S128x32x64x33x2_S32x64x33x2_d0
          (ix4 n c k i)).foldl (reducer_argmax_f32_i32 (F := Ideal)) ((⊥ : EReal), 0#32)).2 := by
    unfold bArg bRep
    after_reads_simp
    simp -implicitDefEqProofs only [TRef.toBuf, TRef.ofBuf, cast_eq]
    clean_types
    rw [Ideal.argReduce_eq_reduce2, Host.reduce2_eq_foldl_fiber]
    rw [← lowest]
    rfl
  rw [e]
  obtain ⟨hm, hb⟩ := fold_kept (Host.argReduceFiber (bRep V) (iotaInDim S128x32x64x33x2 32 0)
    reducesTo_S128x32x64x33x2_S32x64x33x2_d0 (ix4 n c k i)) ((⊥ : EReal), 0#32)
  generalize List.foldl _ _ _ = p at hm hb ⊢
  have hall : ∀ t : Fin 128, Beats p (bRep V (ix5 t n c k i), BitVec.ofNat 32 t.val) := fun t =>
    hb _ (List.mem_cons_of_mem _ ((mem_fiber _ n c k i _).mpr ⟨t, rfl⟩))
  have hone : ∃ t : Fin 128, p = (bRep V (ix5 t n c k i), BitVec.ofNat 32 t.val) := by
    rcases List.mem_cons.mp hm with h | h
    · refine ⟨0, ?_⟩
      rw [h] at hall ⊢
      rcases hall 0 with h0 | ⟨h0, -⟩
      · exact absurd h0 not_lt_bot
      · exact Prod.ext h0.symm rfl
    · exact (mem_fiber _ n c k i _).mp h
  obtain ⟨t, rfl⟩ := hone
  have ht : (BitVec.ofNat 32 t.val).toNat = t.val := (step_toInt t).2
  refine ⟨by rw [ht]; exact t.isLt, fun j => ?_, fun j hj => ?_⟩
  · simp only [ht]
    rcases hall j with h | ⟨h, -⟩
    · exact h.le
    · exact h.le
  · simp only [ht] at hj ⊢
    rcases hall j with h | ⟨-, h⟩
    · exact h
    · simp only [(step_toInt _).1] at h
      omega

end Cert.Proof.Ref
-- ==== Proof.Ref4.lean ====
/-
  The reference's recurrence: what its loop carries after each step.
-/
module

public import proofs.«01_k».proof.Proof.Ref1
public import proofs.«01_k».proof.Proof.Filter

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen Cert.ReferenceIdeal.Value Cert.Proof.Filter

section
variable (V : St)

/-- The weight. -/
def bWeight : S_.Idx → EReal := V (Proc.devRef .tc main_arg2)
/-- The delayed input that the loop reads. -/
def lSig : S128x32x64x33x2.Idx → EReal := V (Proc.devRef .tc main_v39_0)
/-- The loop's counter. -/
def lCtr : S_.Idx → BitVec 32 := V (Proc.devRef .tc main_v39_1)
/-- The integrators' state. -/
def lState : S32x64x33x2.Idx → EReal := V (Proc.devRef .tc main_v39_2)
/-- The states so far. -/
def lOut : S128x32x64x33x2.Idx → EReal := V (Proc.devRef .tc main_v39_3)

theorem step_sig : lSig (STEP V) = lSig V := STEP_main_v39_0 V

theorem step_ctr (k : ℕ) (h : lCtr V = fun _ => BitVec.ofNat 32 k) :
    lCtr (STEP V) = fun _ => BitVec.ofNat 32 (k + 1) := by
  funext y
  have e : lCtr (STEP V) y = lCtr V y + 1#32 := congrFun (STEP_main_v39_1 V) y
  rw [e, h]
  exact (BitVec.ofNat_add k 1).symm

/-- The word that holds two. -/
theorem two_word : Ideal.ofBits .f32 0x40000000#32 = ((2 : ℝ) : EReal) := by
  simp [Ideal.ofBits, Ideal.ieee]
  rw [← EReal.coe_mul]
  norm_num

/-- The counter as an integer. -/
theorem start_word (k : Fin 128) : (BitVec.ofNat 32 k.val).toInt = (k.val : ℤ) := by
  revert k
  decide +kernel

/-- The slice of one step. -/
theorem slice_step (x : S128x32x64x33x2.Idx → EReal) (k : Fin 128) (st : Fin 5 → ℤ) (h0 : st 0 = k.val)
    (h1 : st 1 = 0) (h2 : st 2 = 0) (h3 : st 3 = 0) (h4 : st 4 = 0) (hf : S128x32x64x33x2.Slices (fun _ => 0) S1x32x64x33x2) :
    Host.dynamicSlice S1x32x64x33x2 x st hf = fun j => x (ix5 k (j 1) (j 2) (j 3) (j 4)) := by
  funext j
  have hk := k.isLt
  have c0 := Host.clampedStart_of_le (s := S128x32x64x33x2) (t := S1x32x64x33x2) rfl st 0 k.val h0 (show k.val + 1 ≤ 128 by omega)
  have c1 := Host.clampedStart_of_le (s := S128x32x64x33x2) (t := S1x32x64x33x2) rfl st 1 0 h1 (by decide)
  have c2 := Host.clampedStart_of_le (s := S128x32x64x33x2) (t := S1x32x64x33x2) rfl st 2 0 h2 (by decide)
  have c3 := Host.clampedStart_of_le (s := S128x32x64x33x2) (t := S1x32x64x33x2) rfl st 3 0 h3 (by decide)
  have c4 := Host.clampedStart_of_le (s := S128x32x64x33x2) (t := S1x32x64x33x2) rfl st 4 0 h4 (by decide)
  rw [Host.dynamicSlice_apply]
  congr 1
  have hj : (j 0).val = 0 := by have := (j 0).isLt; change _ < 1 at this; omega
  funext a
  refine Fin.ext ?_
  fin_cases a
  · show Host.clampedStart S128x32x64x33x2 S1x32x64x33x2 rfl st 0 + (j 0).val = k.val
    omega
  · show Host.clampedStart S128x32x64x33x2 S1x32x64x33x2 rfl st 1 + (j 1).val = (j 1).val
    omega
  · show Host.clampedStart S128x32x64x33x2 S1x32x64x33x2 rfl st 2 + (j 2).val = (j 2).val
    omega
  · show Host.clampedStart S128x32x64x33x2 S1x32x64x33x2 rfl st 3 + (j 3).val = (j 3).val
    omega
  · show Host.clampedStart S128x32x64x33x2 S1x32x64x33x2 rfl st 4 + (j 4).val = (j 4).val
    omega

/-- The writing of one step. -/
theorem update_step (x : S128x32x64x33x2.Idx → EReal) (u : S1x32x64x33x2.Idx → EReal) (k : Fin 128) (st : Fin 5 → ℤ)
    (h0 : st 0 = k.val) (h1 : st 1 = 0) (h2 : st 2 = 0) (h3 : st 3 = 0) (h4 : st 4 = 0)
    (hf : S128x32x64x33x2.Slices (fun _ => 0) S1x32x64x33x2)
    (t : Fin 128) (n : Fin 32) (c : Fin 64) (d : Fin 33) (i : Fin 2) :
    Host.dynamicUpdateSlice x u st hf (ix5 t n c d i) = if t = k then u (ix5 0 n c d i) else x (ix5 t n c d i) := by
  have hk := k.isLt
  have c0 := Host.clampedStart_of_le (s := S128x32x64x33x2) (t := S1x32x64x33x2) rfl st 0 k.val h0 (show k.val + 1 ≤ 128 by omega)
  have c1 := Host.clampedStart_of_le (s := S128x32x64x33x2) (t := S1x32x64x33x2) rfl st 1 0 h1 (by decide)
  have c2 := Host.clampedStart_of_le (s := S128x32x64x33x2) (t := S1x32x64x33x2) rfl st 2 0 h2 (by decide)
  have c3 := Host.clampedStart_of_le (s := S128x32x64x33x2) (t := S1x32x64x33x2) rfl st 3 0 h3 (by decide)
  have c4 := Host.clampedStart_of_le (s := S128x32x64x33x2) (t := S1x32x64x33x2) rfl st 4 0 h4 (by decide)
  rw [Host.dynamicUpdateSlice_apply]
  by_cases htk : t = k
  · subst htk
    rw [if_pos rfl, dif_pos]
    · congr 1
      funext b
      refine Fin.ext ?_
      fin_cases b
      · show t.val - Host.clampedStart S128x32x64x33x2 S1x32x64x33x2 rfl st 0 = 0
        omega
      · show n.val - Host.clampedStart S128x32x64x33x2 S1x32x64x33x2 rfl st 1 = n.val
        omega
      · show c.val - Host.clampedStart S128x32x64x33x2 S1x32x64x33x2 rfl st 2 = c.val
        omega
      · show d.val - Host.clampedStart S128x32x64x33x2 S1x32x64x33x2 rfl st 3 = d.val
        omega
      · show i.val - Host.clampedStart S128x32x64x33x2 S1x32x64x33x2 rfl st 4 = i.val
        omega
    · intro a
      fin_cases a
      · show Host.clampedStart S128x32x64x33x2 S1x32x64x33x2 rfl st 0 ≤ t.val
          ∧ t.val < Host.clampedStart S128x32x64x33x2 S1x32x64x33x2 rfl st 0 + 1
        omega
      · show Host.clampedStart S128x32x64x33x2 S1x32x64x33x2 rfl st 1 ≤ n.val
          ∧ n.val < Host.clampedStart S128x32x64x33x2 S1x32x64x33x2 rfl st 1 + 32
        omega
      · show Host.clampedStart S128x32x64x33x2 S1x32x64x33x2 rfl st 2 ≤ c.val
          ∧ c.val < Host.clampedStart S128x32x64x33x2 S1x32x64x33x2 rfl st 2 + 64
        omega
      · show Host.clampedStart S128x32x64x33x2 S1x32x64x33x2 rfl st 3 ≤ d.val
          ∧ d.val < Host.clampedStart S128x32x64x33x2 S1x32x64x33x2 rfl st 3 + 33
        omega
      · show Host.clampedStart S128x32x64x33x2 S1x32x64x33x2 rfl st 4 ≤ i.val
          ∧ i.val < Host.clampedStart S128x32x64x33x2 S1x32x64x33x2 rfl st 4 + 2
        omega
  · rw [if_neg htk, dif_neg]
    intro hin
    have h : Host.clampedStart S128x32x64x33x2 S1x32x64x33x2 rfl st 0 ≤ t.val
        ∧ t.val < Host.clampedStart S128x32x64x33x2 S1x32x64x33x2 rfl st 0 + 1 := hin 0
    exact htk (Fin.ext (by omega))

/-- One step of the state. -/
theorem step_state (k : Fin 128) (h : lCtr V = fun _ => BitVec.ofNat 32 k.val)
    (n : Fin 32) (c : Fin 64) (d : Fin 33) (i : Fin 2) :
    lState (STEP V) (ix4 n c d i)
      = lState V (ix4 n c d i) + Ideal.div (lSig V (ix5 k n c d i) - lState V (ix4 n c d i)) ((2 : ℝ) : EReal) := by
  have e : lState (STEP V) = step_main_v39_2 V := STEP_main_v39_2 V
  rw [e]
  unfold step_main_v39_2 res_main_while0b_v47
  have hc : V (Proc.devRef .tc main_v39_1) = fun _ => BitVec.ofNat 32 k.val := h
  rw [hc]
  clean_types
  unfold lState lSig
  rw [slice_step _ k _ (start_word k) rfl rfl rfl rfl]
  pointwise [id_eq, two_word]

/-- One step writes its state in the step's place. -/
theorem step_out (k : Fin 128) (h : lCtr V = fun _ => BitVec.ofNat 32 k.val)
    (t : Fin 128) (n : Fin 32) (c : Fin 64) (d : Fin 33) (i : Fin 2) :
    lOut (STEP V) (ix5 t n c d i) = if t = k then lState (STEP V) (ix4 n c d i) else lOut V (ix5 t n c d i) := by
  have e : lOut (STEP V) = step_main_v39_3 V := STEP_main_v39_3 V
  have e' : lState (STEP V) = res_main_while0b_v47 V := STEP_main_v39_2 V
  rw [e, e']
  unfold step_main_v39_3
  have hc : V (Proc.devRef .tc main_v39_1) = fun _ => BitVec.ofNat 32 k.val := h
  rw [hc]
  clean_types
  unfold lOut
  rw [id_eq, update_step _ _ k _ (start_word k) rfl rfl rfl rfl]
  pointwise

/-- The result: the weighted states of both inputs added. -/
theorem out_at (t : Fin 128) (n : Fin 32) (c : Fin 64) (d : Fin 33) :
    (out_main_v42 V : S128x32x64x33.Idx → EReal) (ix4 t n c d)
      = ∑ i : Fin 2, lOut V (ix5 t n c d i) * bWeight V ix0 := by
  unfold out_main_v42 lOut bWeight
  clean_types
  pointwise [Ideal.ofBits_zero_f32]

end

/-- Half of a real number. -/
theorem half_way (a b : ℝ) :
    (a : EReal) + Ideal.div ((b : EReal) - (a : EReal)) ((2 : ℝ) : EReal) = ((a + (b - a) / 2 : ℝ) : EReal) := by
  rw [← EReal.coe_sub, Ideal.div, if_neg (by norm_num), ← EReal.coe_inv, ← EReal.coe_mul, ← EReal.coe_add]
  rfl

/-- What the loop carries after its first `k` steps, from a state of zero: the steps' signal, and the integrators'
    states on it. -/
theorem loop_at (V : St) (g : Fin 128 → S32x64x33x2.Idx → ℝ) (hc : lCtr V = fun _ => 0#32) (hs : lState V = fun _ => 0)
    (hg : ∀ t n c d i, lSig V (ix5 t n c d i) = (g t (ix4 n c d i) : EReal)) (k : ℕ) (hk : k ≤ 128) :
    lSig (STEP^[k] V) = lSig V
      ∧ lCtr (STEP^[k] V) = (fun _ => BitVec.ofNat 32 k)
      ∧ (∀ n c d i, lState (STEP^[k] V) (ix4 n c d i)
          = (leak (fun u => g ⟨u % 128, Nat.mod_lt _ (by decide)⟩ (ix4 n c d i)) k : EReal))
      ∧ ∀ t : Fin 128, t.val < k → ∀ n c d i, lOut (STEP^[k] V) (ix5 t n c d i)
          = (leak (fun u => g ⟨u % 128, Nat.mod_lt _ (by decide)⟩ (ix4 n c d i)) (t.val + 1) : EReal) := by
  induction k with
  | zero => exact ⟨rfl, hc, fun n c d i => by rw [Function.iterate_zero, id_eq, hs]; rfl, fun t ht => absurd ht (Nat.not_lt_zero _)⟩
  | succ k ih =>
    obtain ⟨i1, i2, i3, i4⟩ := ih (by omega)
    rw [Function.iterate_succ_apply']
    have hst : ∀ n c d i, lState (STEP (STEP^[k] V)) (ix4 n c d i)
        = (leak (fun u => g ⟨u % 128, Nat.mod_lt _ (by decide)⟩ (ix4 n c d i)) (k + 1) : EReal) := fun n c d i => by
      rw [step_state _ ⟨k, by omega⟩ i2, i1, i3, hg, half_way, leak]
      simp only [Nat.mod_eq_of_lt (show k < 128 by omega)]
    refine ⟨(step_sig _).trans i1, step_ctr _ k i2, hst, fun t ht n c d i => ?_⟩
    rw [step_out _ ⟨k, by omega⟩ i2]
    by_cases htk : t.val = k
    · rw [if_pos (Fin.ext htk), hst, htk]
    · rw [if_neg (fun e => htk (congrArg Fin.val e)), i4 t (by omega)]

end Cert.Proof.Ref
-- ==== Proof.Ref5.lean ====
/-
  What the reference's loop starts from: the input, each step read as many steps back as its delay says.
-/
module

public import proofs.«01_k».proof.Proof.Ref2
public import proofs.«01_k».proof.Proof.Ref3
public import proofs.«01_k».proof.Proof.Ref4

@[expose] public section

set_option maxRecDepth 16384

noncomputable section

namespace Cert.Proof.Ref

open Idealize.ShloMosaic Idealize.ShloMosaic.TcCoe Idealize.ShloMosaic.StableHlo
open Cert.ReferenceIdeal Cert.ReferenceIdeal.Gen Cert.ReferenceIdeal.Value Cert.Proof.Filter

/-- The distance of a place from the last of the 128. -/
theorem to_end (a : Fin 128) : (IntOp.subi 127#32 (BitVec.ofNat 32 a.val)).toInt = ((127 - a.val : ℕ) : ℤ) := by
  revert a
  decide +kernel

/-- A whole number made an integer word. -/
theorem whole_word (b : ℕ) (hb : b ≤ 16) :
    (FloatOps.fptosi (F := Ideal) (φ := .f32) 32 (((b : ℝ) : EReal) : Ideal .f32) : BitVec 32) = BitVec.ofNat 32 b := by
  show BitVec.ofInt 32 (Ideal.toIntClamped _ _ (((b : ℝ) : EReal))) = _
  rw [Ideal.toIntClamped_coe, if_pos (Nat.cast_nonneg b), Int.floor_natCast]
  have h : max (-((2 ^ (32 - 1) : ℕ) : ℤ)) (min (((2 ^ (32 - 1) : ℕ) : ℤ) - 1) (b : ℤ)) = (b : ℤ) := by omega
  exact (congrArg _ h).trans (BitVec.ofInt_natCast 32 b)

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-- The delay rounded: the smaller of the whole delay and the distance to the end. -/
theorem rounded (b : ℕ) (hb : b ≤ 16) (a : Fin 128) :
    FloatOps.fptosi (F := Ideal) (φ := .f32) 32 (min (((b : ℝ) : EReal) : EReal)
        (FloatOps.sitofp (F := Ideal) .f32 (IntOp.subi 127#32 (BitVec.ofNat 32 a.val))))
      = BitVec.ofNat 32 (min b (127 - a.val)) := by
  have e : (FloatOps.sitofp (F := Ideal) .f32 (IntOp.subi 127#32 (BitVec.ofNat 32 a.val)) : EReal)
      = (((127 - a.val : ℕ) : ℝ) : EReal) := by
    show (((IntOp.subi 127#32 (BitVec.ofNat 32 a.val)).toInt : ℝ) : EReal) = _
    rw [to_end]
    norm_cast
  rw [e, coe_min', ← Nat.cast_min]
  exact whole_word _ (by omega)

section
variable (V : St)

theorem rep_kept : bRep (after hostOps0_6 (after hostOps0_5 (after hostOps0_4 (after hostOps0_3
    (after hostOps0_2 (after hostOps0_1 V)))))) = bRep V := by
  unfold bRep
  rw [after_of_writes_sub _ _ hostOps0_6_writes (by decide +kernel),
    after_of_writes_sub _ _ hostOps0_5_writes (by decide +kernel),
    after_of_writes_sub _ _ hostOps0_4_writes (by decide +kernel),
    after_of_writes_sub _ _ hostOps0_3_writes (by decide +kernel),
    after_of_writes_sub _ _ hostOps0_2_writes (by decide +kernel),
    after_of_writes_sub _ _ hostOps0_1_writes (by decide +kernel)]

theorem rep_kept' : bRep (after hostOps0_5 (after hostOps0_4 (after hostOps0_3
    (after hostOps0_2 (after hostOps0_1 V))))) = bRep V := by
  rw [← rep_kept V]
  unfold bRep
  rw [after_of_writes_sub _ _ hostOps0_6_writes (by decide +kernel)]

theorem rep_kept'' : bRep (after hostOps0_8 (after hostOps0_7 V)) = bRep V := by
  unfold bRep
  rw [after_of_writes_sub _ _ hostOps0_8_writes (by decide +kernel),
    after_of_writes_sub _ _ hostOps0_7_writes (by decide +kernel)]

theorem round_kept : bRound (after hostOps0_6 V) = bRound V := by
  unfold bRound
  rw [after_of_writes_sub _ _ hostOps0_6_writes (by decide +kernel)]

theorem up_kept : bUp (after hostOps0_4 V) = bUp V := by
  unfold bUp
  rw [after_of_writes_sub _ _ hostOps0_4_writes (by decide +kernel)]

theorem floor_kept : bFloor (after hostOps0_4 (after hostOps0_3 V)) = bFloor V := by
  unfold bFloor
  rw [after_of_writes_sub _ _ hostOps0_4_writes (by decide +kernel),
    after_of_writes_sub _ _ hostOps0_3_writes (by decide +kernel)]

theorem sig_entry : lSig (after hostOps0_10 V) = bShift V := by
  unfold lSig bShift
  after_reads_simp
  rfl

theorem ctr_zero : lCtr (after hostOps0_10 V) = fun _ => 0#32 := by
  unfold lCtr
  after_reads_simp
  rfl

theorem state_zero : lState (after hostOps0_10 V) = fun _ => 0 := by
  unfold lState
  after_reads_simp
  clean_types
  funext y
  pointwise [id_eq, Ideal.ofBits_zero_f32]

variable (hd : ∀ k : Fin 33, bDelay V (ix2 k 0) = ((((k.val : ℤ) - 16 : ℤ) : ℝ) : EReal))
include hd

/-- The delay of each neuron on each input. -/
theorem clip_back (k : Fin 33) (i : Fin 2) :
    bClip (after hostOps0_1 (after hostOps0 V)) (ix2 k i) = ((back k i : ℝ) : EReal) := by
  rw [clipped, paired, hd, back]
  split
  · rw [← EReal.coe_zero, coe_max', EReal.coe_eq_coe_iff]
    have h : max ((k.val : ℤ) - 16) 0 = ((k.val - 16 : ℕ) : ℤ) := by omega
    exact_mod_cast h
  · rw [← EReal.coe_neg, ← EReal.coe_zero, coe_max', EReal.coe_eq_coe_iff]
    have h : max (-((k.val : ℤ) - 16)) 0 = ((16 - k.val : ℕ) : ℤ) := by omega
    exact_mod_cast h

/-- The rounding leaves the whole delays as they are. -/
theorem round_back (n : Fin 32) (c : Fin 64) (k : Fin 33) (i : Fin 2) :
    bRound (after hostOps0_5 (after hostOps0_4 (after hostOps0_3 (after hostOps0_2 (after hostOps0_1 (after hostOps0 V))))))
      (ix4 n c k i) = ((back k i : ℝ) : EReal) := by
  have hfl : bFloor (after hostOps0_2 (after hostOps0_1 (after hostOps0 V))) (ix4 n c k i) = ((back k i : ℝ) : EReal) := by
    rw [floored, clip_back V hd, Ideal.liftRound_coe, Int.floor_natCast]
    rfl
  have hleft : bLeft (after hostOps0_2 (after hostOps0_1 (after hostOps0 V))) (ix4 n c k i) = 0 := by
    rw [leftover, clip_back V hd, Ideal.liftRound_coe, Int.floor_natCast, ← EReal.coe_sub]
    simp
  rw [chosen, up_kept, not_up _ _ hleft, floor_kept, hfl]
  rfl

/-- The loop's input at each step: the input as many steps back (round the end) as the delay says, but not so many
    that the greatest input would leave at the end. -/
theorem entry_sig (a : Fin 32 → Fin 64 → Fin 2 → ℕ)
    (ha : ∀ n c i, FirstMax (fun t => bIn V (ix4 t n c i)) (a n c i))
    (t : Fin 128) (n : Fin 32) (c : Fin 64) (k : Fin 33) (i : Fin 2) :
    lSig (afterL preI V) (ix5 t n c k i)
      = bIn V (ix4 ⟨(t.val + (128 - min (back k i) (127 - a n c i))) % 128, Nat.mod_lt _ (by decide)⟩ n c i) := by
  simp only [preI, afterL_cons, afterL_nil]
  have hback := back_le k i
  have hlt := (ha n c i).lt
  rw [sig_entry]
  have hround := round_back V hd n c k i
  generalize hW : after hostOps0 V = W at hround ⊢
  have hrepW : ∀ t, bRep W (ix5 t n c k i) = bIn V (ix4 t n c i) := fun t => by rw [← hW, repeated]
  have hfm := first_max (after hostOps0_5 (after hostOps0_4 (after hostOps0_3 (after hostOps0_2 (after hostOps0_1 W)))))
    n c k i
  have hrep := rep_kept W
  rw [rep_kept'] at hfm
  simp only [hrepW] at hfm
  have harg := hfm.unique (ha n c i)
  rw [← round_kept] at hround
  generalize after hostOps0_6 (after hostOps0_5 (after hostOps0_4 (after hostOps0_3 (after hostOps0_2 (after hostOps0_1 W)))))
    = X at hround hrep harg ⊢
  have hword : bArg X (ix4 n c k i) = BitVec.ofNat 32 (a n c i) := by
    rw [← harg, BitVec.ofNat_toNat, BitVec.setWidth_eq]
  have hdiff : bDiff (after hostOps0_7 X) (ix5 t n c k i)
      = IntOp.subi (BitVec.ofNat 32 t.val) (BitVec.ofNat 32 (min (back k i) (127 - a n c i))) := by
    rw [looked_back, hround, hword]
    exact congrArg _ (rounded (back k i) hback ⟨a n c i, hlt⟩)
  rw [gathered _ t ⟨(t.val + (128 - min (back k i) (127 - a n c i))) % 128, Nat.mod_lt _ (by decide)⟩ n c k i
    (wrapped _ (steps X) _ t ⟨min (back k i) (127 - a n c i), by omega⟩ hdiff), rep_kept'', hrep, hrepW]

end

/-- What the reference computes: both inputs' states under the delays, weighted and added. -/
theorem reference_at (m : (ℓ : Loc nD τ sig) → Buf (Elt Ideal) ℓ) (dev : Dev nD)
    (V : St) (hV : V = fun b => m (dev, b))
    (x : Fin 128 → Fin 32 → Fin 64 → Fin 2 → ℝ)
    (hx : ∀ t n c i, bIn V (ix4 t n c i) = (x t n c i : EReal))
    (hd : ∀ k : Fin 33, bDelay V (ix2 k 0) = ((((k.val : ℤ) - 16 : ℤ) : ℝ) : EReal))
    (a : Fin 32 → Fin 64 → Fin 2 → ℕ)
    (ha : ∀ n c i, FirstMax (fun t => bIn V (ix4 t n c i)) (a n c i))
    (t : Fin 128) (n : Fin 32) (c : Fin 64) (k : Fin 33) :
    (out_main_v42 (STEP^[128] (entryContents preI m dev)) : S128x32x64x33.Idx → EReal) (ix4 t n c k)
      = (∑ i : Fin 2, ((∑ u : Fin 128, coef t.val u.val
          * x ⟨(u.val + (128 - min (back k i) (127 - a n c i))) % 128, Nat.mod_lt _ (by decide)⟩ n c i : ℝ) : EReal)
            * bWeight V ix0 : EReal) := by
  have hE : entryContents preI m dev = afterL preI V := by rw [hV]
  have hw : bWeight (STEP^[128] (entryContents preI m dev)) = bWeight V := by
    rw [hV]; exact iter_main_arg2 m dev 128
  have hloop := loop_at (entryContents preI m dev)
    (fun t j => x ⟨(t.val + (128 - min (back (j 2) (j 3)) (127 - a (j 0) (j 1) (j 3)))) % 128, Nat.mod_lt _ (by decide)⟩
      (j 0) (j 1) (j 3))
    (by rw [hE]; simp only [preI, afterL_cons, afterL_nil]; exact ctr_zero _)
    (by rw [hE]; simp only [preI, afterL_cons, afterL_nil]; exact state_zero _)
    (fun t n c d i => by rw [hE, entry_sig V hd a ha, hx]; rfl) 128 le_rfl
  rw [out_at, hw]
  show (∑ i : Fin 2, _ : EReal) = _
  refine Finset.sum_congr rfl fun i _ => ?_
  rw [hloop.2.2.2 t t.isLt n c k i, leak_eq_sum _ _ t.isLt]
  congr 2

end Cert.Proof.Ref
-- ==== Proof.Pre.lean ====
/-
  What the precondition says: the delays are those of the problem, and the input and the weight are real numbers.
-/
module

public import proofs.«01_k».proof.Pre_drawn
public import proofs.«01_k».proof.Proof.Gen.Pre_drawn
public import Idealize.ShloMosaic.PureOps.Ideal
public import Idealize.ShloMosaic.Lib.Pointwise
public import Idealize.ShloMosaic.Lib.ReduceAll
public import Idealize.ShloMosaic.Lib.Tactic.CleanTypes

@[expose] public section

set_option maxRecDepth 16384

noncomputable section

namespace Cert.Proof.Pre

open Idealize.ShloMosaic
open Cert.Pre_drawn

/-- The pattern of the largest value stands for infinity. -/
theorem top_pattern : Ideal.ofBits .f32 0x7F800000#32 = (⊤ : EReal) := by simp [Ideal.ofBits, Ideal.ieee]

/-- An extended real whose magnitude is below infinity is a real number. -/
theorem real_of_below (z : EReal) (h : Ideal.cmp .olt (max z (-z)) ⊤ = 1#1) : ∃ r : ℝ, z = (r : EReal) := by
  have hlt : max z (-z) < ⊤ := by
    by_contra hn
    rw [Ideal.cmp, decide_eq_false hn] at h
    exact absurd h (by decide)
  induction z with
  | bot => simp at hlt
  | top => simp at hlt
  | coe r => exact ⟨r, rfl⟩

/-- Two extended reals that compare equal are equal. -/
theorem eq_of_cmp (y z : EReal) (h : Ideal.cmp .oeq y z = 1#1) : y = z := by
  by_contra hn
  rw [Ideal.cmp, decide_eq_false hn] at h
  exact absurd h (by decide)

/-- The word of neuron `k`'s delay. -/
theorem delay_word (k : Fin 33) : (BitVec.ofNat 32 k.val - 16#32).toInt = (k.val : ℤ) - 16 := by
  revert k; decide +kernel

variable (A0 : S128x32x64x2.Idx → EReal) (A1 : S33x1.Idx → EReal) (A2 : S_.Idx → EReal)

/-- The three parts of the precondition. -/
theorem parts (h : fn (F := Ideal) A0 A1 A2 = fun _ => 1#1) :
    (∀ k : Fin 33, A1 (ix2 k 0) = ((((k.val : ℤ) - 16 : ℤ) : ℝ) : EReal))
      ∧ (∀ y, ∃ r : ℝ, A0 y = (r : EReal)) ∧ ∃ r : ℝ, A2 ix0 = (r : EReal) := by
  have h0 := congrFun h ix0
  unfold fn at h0
  haveI : Subsingleton S_.Idx := ⟨fun p q => funext fun j => j.elim0⟩
  obtain ⟨h1, h2⟩ := IntOp.andi_eq_one.1 h0
  obtain ⟨h3, h4⟩ := IntOp.andi_eq_one.1 h1
  refine ⟨fun k => ?_, fun y => ?_, ?_⟩
  · have e := Host.reduce_andi_all _ _ _ _ _ h3 (ix2 k 0)
    refine (eq_of_cmp _ _ e).trans ?_
    pointwise [id_eq]
    rw [← delay_word k]
    rfl
  · have e := Host.reduce_andi_all _ _ _ _ _ h4 y
    refine real_of_below _ ?_
    rw [← top_pattern]
    exact e
  · refine real_of_below _ ?_
    rw [← top_pattern]
    exact h2

end Cert.Proof.Pre

end
-- ==== Proof.Equation.lean ====
/-
  The kernel's result is the reference's.
-/
module

public import proofs.«01_k».proof.Proof.Array
public import proofs.«01_k».proof.Proof.Ref5
public import proofs.«01_k».proof.Proof.Pre

@[expose] public section

set_option maxRecDepth 16384

noncomputable section

namespace Cert.Proof.Both

open Idealize.ShloMosaic Idealize.ShloMosaic.TcCoe Idealize.ShloMosaic.StableHlo
open Cert.Proof.Filter Cert.Proof.Block

/-- The array the kernel leaves on device `c`. -/
def left (m : (ℓ : Loc KernelIdeal.nD KernelIdeal.τ KernelIdeal.sig) → Buf (Elt Ideal) ℓ) (c : Dev KernelIdeal.nD) :
    KernelIdeal.S128x32x64x33.Idx → EReal :=
  Pipeline.afterTail₀ KernelIdeal.cfgs (KernelIdeal.Gen.dats m) 0 (KernelIdeal.Gen.V0 m) [KernelIdeal.Gen.hostOps1] c
    KernelIdeal.main_v27

/-- The reference's array on device `c`. -/
def wanted (m : (ℓ : Loc ReferenceIdeal.nD ReferenceIdeal.τ ReferenceIdeal.sig) → Buf (Elt Ideal) ℓ)
    (c : Dev ReferenceIdeal.nD) : ReferenceIdeal.S128x32x64x33.Idx → EReal :=
  ReferenceIdeal.Value.out_main_v42
    (ReferenceIdeal.Value.STEP^[128] (entryContents ReferenceIdeal.Value.preI m c))

/-- From the same arguments, under the precondition, both arrays are equal. -/
theorem wanted_eq_left
    (m : (ℓ : Loc KernelIdeal.nD KernelIdeal.τ KernelIdeal.sig) → Buf (Elt Ideal) ℓ) (c : Dev KernelIdeal.nD)
    (m' : (ℓ : Loc ReferenceIdeal.nD ReferenceIdeal.τ ReferenceIdeal.sig) → Buf (Elt Ideal) ℓ)
    (A1 : KernelIdeal.S33x1.Idx → EReal)
    (e0 : Ref.bIn (fun b => m' (c, b)) = input m c) (e1 : Ref.bDelay (fun b => m' (c, b)) = A1)
    (e2 : Ref.bWeight (fun b => m' (c, b)) = weight m c)
    (hd : ∀ k : Fin 33, A1 (ix2 k 0) = ((((k.val : ℤ) - 16 : ℤ) : ℝ) : EReal))
    (hx : ∀ y, ∃ r : ℝ, input m c y = (r : EReal)) (hw : ∃ r : ℝ, weight m c ix0 = (r : EReal)) :
    wanted m' c = left m c := by
  choose x hx using hx
  obtain ⟨w, hw⟩ := hw
  choose a ha using fun (n : Fin 32) (d : Fin 64) (i : Fin 2) => exists_firstMax fun t => input m c (ix4 t n d i)
  have hL : Launch m c (fun t n d i => x (ix4 t n d i)) w a := ⟨fun t n d i => hx _, hw, ha⟩
  funext y
  obtain ⟨t, n, d, k, rfl⟩ : ∃ (t : Fin 128) (n : Fin 32) (d : Fin 64) (k : Fin 33), y = ix4 t n d k :=
    ⟨_, _, _, _, eq_ix4 (n0 := 128) (n1 := 32) (n2 := 64) (n3 := 33) y⟩
  refine (Ref.reference_at m' c (fun b => m' (c, b)) rfl (fun t n d i => x (ix4 t n d i))
    (fun t n d i => (congrFun e0 _).trans (hx _)) (fun k => (congrFun e1 _).trans (hd k)) a
    (fun n d i => by rw [e0]; exact ha n d i) t n d k).trans ?_
  refine Eq.trans ?_ (result_at m c _ w a hL t n d k).symm
  rw [e2, hw]
  rfl

end Cert.Proof.Both

end
-- ==== Proof.lean ====
/-
  Every claim of the certificate: the programs' frames, and that the kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs, leaves its arguments as they were, and every semaphore counter at zero. -/
theorem reference_frame : quiescent_ReferenceIdeal := fun m ρ _ =>
  (θ_run ReferenceIdeal.defs _ _).mono (fun r h => ⟨fun c => (h c).2, sem_eq_zero_of_no_sems (by decide) r.2⟩)
    (ReferenceIdeal.Value.run m ρ)

/-- The kernel runs, leaves its result in `left`, and its arguments as they were. -/
theorem kernel_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal)))
      ⟨m, fun _ => 0, ρ⟩ (fun r => ∀ c : Dev KernelIdeal.nD,
        r.2.mem ((c.tc : Thread KernelIdeal.nD KernelIdeal.τ).loc KernelIdeal.main_v27) = Both.left m c
        ∧ r.2.mem ((c.tc : Thread KernelIdeal.nD KernelIdeal.τ).loc KernelIdeal.main_arg0)
            = m ((c.tc : Thread KernelIdeal.nD KernelIdeal.τ).loc KernelIdeal.main_arg0)
        ∧ r.2.mem ((c.tc : Thread KernelIdeal.nD KernelIdeal.τ).loc KernelIdeal.main_arg1)
            = m ((c.tc : Thread KernelIdeal.nD KernelIdeal.τ).loc KernelIdeal.main_arg1)
        ∧ r.2.mem ((c.tc : Thread KernelIdeal.nD KernelIdeal.τ).loc KernelIdeal.main_arg2)
            = m ((c.tc : Thread KernelIdeal.nD KernelIdeal.τ).loc KernelIdeal.main_arg2)) :=
  (θ_run KernelIdeal.defs _ _).mono (fun _ h c =>
    ⟨(h c).2 KernelIdeal.main_v27 (Pipeline.mem_restRefs_of KernelIdeal.main_v27 (by decide) (by decide)),
      ((h c).2 KernelIdeal.main_arg0 (Pipeline.mem_restRefs_of KernelIdeal.main_arg0 (by decide) (by decide))).trans
        (KernelIdeal.Gen.W_main_arg0 m (KernelIdeal.Gen.dats m) c),
      ((h c).2 KernelIdeal.main_arg1 (Pipeline.mem_restRefs_of KernelIdeal.main_arg1 (by decide) (by decide))).trans
        (KernelIdeal.Gen.W_main_arg1 m (KernelIdeal.Gen.dats m) c),
      ((h c).2 KernelIdeal.main_arg2 (Pipeline.mem_restRefs_of KernelIdeal.main_arg2 (by decide) (by decide))).trans
        (KernelIdeal.Gen.W_main_arg2 m (KernelIdeal.Gen.dats m) c)⟩) (KernelIdeal.Gen.run_main m ρ)

/-- The kernel and the reference end with equal results. -/
theorem equal_results : algebraic_KernelIdeal_ReferenceIdeal_pre_drawn := by
  intro m ρ m' ρ' hpre hagree
  refine ⟨fun c => Both.left m c, kernel_run m ρ, ?_⟩
  refine (θ_run ReferenceIdeal.defs _ _).mono (fun _ h c => ⟨(h c).1.trans ?_, (h c).2⟩) (ReferenceIdeal.Value.run m' ρ')
  obtain ⟨hd, hx, hw⟩ := Pre.parts _ _ _ (hpre c)
  exact Both.wanted_eq_left m c m' _ (hagree c).1 (hagree c).2.1 (hagree c).2.2 hd hx hw

theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal_results⟩

end Cert.Proof

end
